-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S8x4x2048x768 : Shape := ⟨4, ![8, 4, 2048, 768]⟩
abbrev S8 : Shape := ⟨1, ![8]⟩
abbrev S8x2048x2 : Shape := ⟨3, ![8, 2048, 2]⟩
abbrev S320x320 : Shape := ⟨2, ![320, 320]⟩
abbrev S_ : Shape := ⟨0, ![]⟩

class Facts : Prop where
  bcast_S_S8 : S_.BroadcastsInDim S8 (![] : Fin 0 → Fin S8.rank)
  reducesTo_S8_S_d0 : S8.ReducesTo [0] S_
  h_S_ : 0 < S_.numel
  bcast_S_S8x2048x2 : S_.BroadcastsInDim S8x2048x2 (![] : Fin 0 → Fin S8x2048x2.rank)
  reducesTo_S8x2048x2_S_d0_1_2 : S8x2048x2.ReducesTo [0, 1, 2] S_

variable [Facts]

def fn {F : FTy → Type} [FloatOps F] (main_arg0 : FVec F S8x4x2048x768 .f32) (main_arg1 : IVec S8 32) (main_arg2 : IVec S8x2048x2 32) (main_arg3 : FVec F S320x320 .f32) : IVec S_ 1 :=
  let main_c : IVec S_ 32 := constantI S_ 32 0#32
  let main_v0 : IVec S8 32 := broadcastInDim S8 ![] bcast_S_S8 main_c
  let main_v1 : IVec S8 1 := cmpi .sge main_arg1 main_v0
  let main_c_0 : IVec S_ 1 := constantI S_ 1 1#1
  let main_v2 : IVec S_ 1 := (fun x v => Host.reduce IntOp.andi x v reducesTo_S8_S_d0 h_S_) main_v1 main_c_0
  let main_c_1 : IVec S_ 32 := constantI S_ 32 2048#32
  let main_v3 : IVec S8 32 := broadcastInDim S8 ![] bcast_S_S8 main_c_1
  let main_v4 : IVec S8 1 := cmpi .slt main_arg1 main_v3
  let main_c_2 : IVec S_ 1 := constantI S_ 1 1#1
  let main_v5 : IVec S_ 1 := (fun x v => Host.reduce IntOp.andi x v reducesTo_S8_S_d0 h_S_) main_v4 main_c_2
  let main_v6 : IVec S_ 1 := andi main_v2 main_v5
  let main_c_3 : IVec S_ 32 := constantI S_ 32 0#32
  let main_v7 : IVec S8x2048x2 32 := broadcastInDim S8x2048x2 ![] bcast_S_S8x2048x2 main_c_3
  let main_v8 : IVec S8x2048x2 1 := cmpi .sge main_arg2 main_v7
  let main_c_4 : IVec S_ 1 := constantI S_ 1 1#1
  let main_v9 : IVec S_ 1 := (fun x v => Host.reduce IntOp.andi x v reducesTo_S8x2048x2_S_d0_1_2 h_S_) main_v8 main_c_4
  let main_v10 : IVec S_ 1 := andi main_v6 main_v9
  let main_c_5 : IVec S_ 32 := constantI S_ 32 320#32
  let main_v11 : IVec S8x2048x2 32 := broadcastInDim S8x2048x2 ![] bcast_S_S8x2048x2 main_c_5
  let main_v12 : IVec S8x2048x2 1 := cmpi .slt main_arg2 main_v11
  let main_c_6 : IVec S_ 1 := constantI S_ 1 1#1
  let main_v13 : IVec S_ 1 := (fun x v => Host.reduce IntOp.andi x v reducesTo_S8x2048x2_S_d0_1_2 h_S_) main_v12 main_c_6
  let main_v14 : IVec S_ 1 := andi main_v10 main_v13
  main_v14
-- ==== Kernel.lean ====
abbrev S8x4x2048x768 : Shape := ⟨4, ![8, 4, 2048, 768]⟩
abbrev S8 : Shape := ⟨1, ![8]⟩
abbrev S8x2048x2 : Shape := ⟨3, ![8, 2048, 2]⟩
abbrev S320x320 : Shape := ⟨2, ![320, 320]⟩
abbrev S102400 : Shape := ⟨1, ![102400]⟩
abbrev S8x2x1x1024 : Shape := ⟨4, ![8, 2, 1, 1024]⟩
abbrev S512x2 : Shape := ⟨2, ![512, 2]⟩
abbrev S512 : Shape := ⟨1, ![512]⟩
abbrev S_ : Shape := ⟨0, ![]⟩
abbrev S1x512x2 : Shape := ⟨3, ![1, 512, 2]⟩
abbrev S16 : Shape := ⟨1, ![16]⟩
abbrev S128 : Shape := ⟨1, ![128]⟩
abbrev S1x1x1x512 : Shape := ⟨4, ![1, 1, 1, 512]⟩
abbrev S8x768 : Shape := ⟨2, ![8, 768]⟩
abbrev S1024x768 : Shape := ⟨2, ![1024, 768]⟩
abbrev S1 : Shape := ⟨1, ![1]⟩
abbrev S1x1x1024x768 : Shape := ⟨4, ![1, 1, 1024, 768]⟩
abbrev S64x768 : Shape := ⟨2, ![64, 768]⟩
abbrev S1x1x64x768 : Shape := ⟨4, ![1, 1, 64, 768]⟩
abbrev S1x1024 : Shape := ⟨2, ![1, 1024]⟩
abbrev S1x1x1x1024 : Shape := ⟨4, ![1, 1, 1, 1024]⟩
abbrev S1x768 : Shape := ⟨2, ![1, 768]⟩

abbrev nBuf : Table → Nat
  | .hbm => 6
  | .local .tc .vmem => 7
  | .local .tc .smem => 1
  | .local .scVector .vmem => 3
  | _ => 0

abbrev bufTy : (tb : Table) → Fin (nBuf tb) → BufTy
  | .hbm, ⟨0, _⟩ => ⟨S8x4x2048x768, .f32⟩
  | .hbm, ⟨1, _⟩ => ⟨S8x2048x2, .i32⟩
  | .hbm, ⟨2, _⟩ => ⟨S320x320, .f32⟩
  | .hbm, ⟨3, _⟩ => ⟨S102400, .f32⟩
  | .hbm, ⟨4, _⟩ => ⟨S8x2x1x1024, .f32⟩
  | .hbm, ⟨5, _⟩ => ⟨S8x768, .f32⟩
  | .local .tc .vmem, ⟨0, _⟩ => ⟨S8x2x1x1024, .f32⟩
  | .local .tc .vmem, ⟨1, _⟩ => ⟨S8x768, .f32⟩
  | .local .tc .vmem, ⟨2, _⟩ => ⟨S1024x768, .f32⟩
  | .local .tc .vmem, ⟨3, _⟩ => ⟨S1024x768, .f32⟩
  | .local .tc .vmem, ⟨4, _⟩ => ⟨S1024x768, .f32⟩
  | .local .tc .vmem, ⟨5, _⟩ => ⟨S1024x768, .f32⟩
  | .local .tc .vmem, ⟨6, _⟩ => ⟨S1024x768, .f32⟩
  | .local .tc .smem, ⟨0, _⟩ => ⟨S8, .i32⟩
  | .local .scVector .vmem, ⟨0, _⟩ => ⟨S512x2, .i32⟩
  | .local .scVector .vmem, ⟨1, _⟩ => ⟨S512, .i32⟩
  | .local .scVector .vmem, ⟨2, _⟩ => ⟨S512, .f32⟩
  | _, _ => ⟨S8x4x2048x768, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_arg1 : Ref sig .tc := ⟨.smem, 0, rfl⟩
abbrev main_arg2_scv : Ref sig .scVector := ⟨.hbm, 1, rfl⟩
abbrev main_v0_scv : Ref sig .scVector := ⟨.hbm, 3, rfl⟩
abbrev main_v1_scv : Ref sig .scVector := ⟨.hbm, 4, rfl⟩
abbrev cc1_stg0_0 : Ref sig .tc := ⟨.vmem, 0, rfl⟩
abbrev cc1_stg1_0 : Ref sig .tc := ⟨.vmem, 1, rfl⟩
abbrev cc1_scratch0 : Ref sig .tc := ⟨.vmem, 2, rfl⟩
abbrev cc1_scratch1 : Ref sig .tc := ⟨.vmem, 3, rfl⟩
abbrev cc1_scratch2 : Ref sig .tc := ⟨.vmem, 4, rfl⟩
abbrev cc1_scratch3 : Ref sig .tc := ⟨.vmem, 5, rfl⟩
abbrev cc1_scratch4 : Ref sig .tc := ⟨.vmem, 6, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 3
abbrev cc1_sem1_0 : DmaSem sig := 4
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32_23 : BitVec 32 := 512#32
  let v57 : BitVec 32 := Scalar.muli v28 c512_i32_23
  let c0_i32_24 : BitVec 32 := 0#32
  ![v18.toNat, v57.toNat, 0]

def k0_chk1 (v67 : IVec S16 32) (v68 : IVec S16 32) (v70 : IVec S16 32) : Prop :=
  (∀ a x, ((![v70, v67] : Fin 2 → IVec S16 32) a x).toNat < S512x2.size a) ∧
  (∀ a x, ((![v70, v68] : Fin 2 → IVec S16 32) a x).toNat < S512x2.size a)
theorem k0_idx1_inb : ∀ (v67 : IVec S16 32) (v68 : IVec S16 32) (v70 : IVec S16 32) (k0_hw1 : k0_chk1 v67 v68 v70), ∀ a x, ((![v70, v67] : Fin 2 → IVec S16 32) a x).toNat < S512x2.size a := fun v67 v68 v70 k0_hw1 => k0_hw1.1
theorem k0_idx2_inb : ∀ (v67 : IVec S16 32) (v68 : IVec S16 32) (v70 : IVec S16 32) (k0_hw1 : k0_chk1 v67 v68 v70), ∀ a x, ((![v70, v68] : Fin 2 → IVec S16 32) a x).toNat < S512x2.size a := fun v67 v68 v70 k0_hw1 => k0_hw1.2

def k0_chk2 (v67 : IVec S16 32) (v68 : IVec S16 32) (v78 : IVec S16 32) : Prop :=
  (∀ a x, ((![v78, v67] : Fin 2 → IVec S16 32) a x).toNat < S512x2.size a) ∧
  (∀ a x, ((![v78, v68] : Fin 2 → IVec S16 32) a x).toNat < S512x2.size a)
theorem k0_idx3_inb : ∀ (v67 : IVec S16 32) (v68 : IVec S16 32) (v78 : IVec S16 32) (k0_hw2 : k0_chk2 v67 v68 v78), ∀ a x, ((![v78, v67] : Fin 2 → IVec S16 32) a x).toNat < S512x2.size a := fun v67 v68 v78 k0_hw2 => k0_hw2.1
theorem k0_idx4_inb : ∀ (v67 : IVec S16 32) (v68 : IVec S16 32) (v78 : IVec S16 32) (k0_hw2 : k0_chk2 v67 v68 v78), ∀ a x, ((![v78, v68] : Fin 2 → IVec S16 32) a x).toNat < S512x2.size a := fun v67 v68 v78 k0_hw2 => k0_hw2.2

def k0_chk3 (v67 : IVec S16 32) (v68 : IVec S16 32) (v86 : IVec S16 32) : Prop :=
  (∀ a x, ((![v86, v67] : Fin 2 → IVec S16 32) a x).toNat < S512x2.size a) ∧
  (∀ a x, ((![v86, v68] : Fin 2 → IVec S16 32) a x).toNat < S512x2.size a)
theorem k0_idx5_inb : ∀ (v67 : IVec S16 32) (v68 : IVec S16 32) (v86 : IVec S16 32) (k0_hw3 : k0_chk3 v67 v68 v86), ∀ a x, ((![v86, v67] : Fin 2 → IVec S16 32) a x).toNat < S512x2.size a := fun v67 v68 v86 k0_hw3 => k0_hw3.1
theorem k0_idx6_inb : ∀ (v67 : IVec S16 32) (v68 : IVec S16 32) (v86 : IVec S16 32) (k0_hw3 : k0_chk3 v67 v68 v86), ∀ a x, ((![v86, v68] : Fin 2 → IVec S16 32) a x).toNat < S512x2.size a := fun v67 v68 v86 k0_hw3 => k0_hw3.2

def k0_chk4 (v67 : IVec S16 32) (v68 : IVec S16 32) (v94 : IVec S16 32) : Prop :=
  (∀ a x, ((![v94, v67] : Fin 2 → IVec S16 32) a x).toNat < S512x2.size a) ∧
  (∀ a x, ((![v94, v68] : Fin 2 → IVec S16 32) a x).toNat < S512x2.size a)
theorem k0_idx7_inb : ∀ (v67 : IVec S16 32) (v68 : IVec S16 32) (v94 : IVec S16 32) (k0_hw4 : k0_chk4 v67 v68 v94), ∀ a x, ((![v94, v67] : Fin 2 → IVec S16 32) a x).toNat < S512x2.size a := fun v67 v68 v94 k0_hw4 => k0_hw4.1
theorem k0_idx8_inb : ∀ (v67 : IVec S16 32) (v68 : IVec S16 32) (v94 : IVec S16 32) (k0_hw4 : k0_chk4 v67 v68 v94), ∀ a x, ((![v94, v68] : Fin 2 → IVec S16 32) a x).toNat < S512x2.size a := fun v67 v68 v94 k0_hw4 => k0_hw4.2

def k0_chk5 (v67 : IVec S16 32) (v68 : IVec S16 32) (v102 : IVec S16 32) : Prop :=
  (∀ a x, ((![v102, v67] : Fin 2 → IVec S16 32) a x).toNat < S512x2.size a) ∧
  (∀ a x, ((![v102, v68] : Fin 2 → IVec S16 32) a x).toNat < S512x2.size a)
theorem k0_idx9_inb : ∀ (v67 : IVec S16 32) (v68 : IVec S16 32) (v102 : IVec S16 32) (k0_hw5 : k0_chk5 v67 v68 v102), ∀ a x, ((![v102, v67] : Fin 2 → IVec S16 32) a x).toNat < S512x2.size a := fun v67 v68 v102 k0_hw5 => k0_hw5.1
theorem k0_idx10_inb : ∀ (v67 : IVec S16 32) (v68 : IVec S16 32) (v102 : IVec S16 32) (k0_hw5 : k0_chk5 v67 v68 v102), ∀ a x, ((![v102, v68] : Fin 2 → IVec S16 32) a x).toNat < S512x2.size a := fun v67 v68 v102 k0_hw5 => k0_hw5.2

def k0_chk6 (v67 : IVec S16 32) (v68 : IVec S16 32) (v110 : IVec S16 32) : Prop :=
  (∀ a x, ((![v110, v67] : Fin 2 → IVec S16 32) a x).toNat < S512x2.size a) ∧
  (∀ a x, ((![v110, v68] : Fin 2 → IVec S16 32) a x).toNat < S512x2.size a)
theorem k0_idx11_inb : ∀ (v67 : IVec S16 32) (v68 : IVec S16 32) (v110 : IVec S16 32) (k0_hw6 : k0_chk6 v67 v68 v110), ∀ a x, ((![v110, v67] : Fin 2 → IVec S16 32) a x).toNat < S512x2.size a := fun v67 v68 v110 k0_hw6 => k0_hw6.1
theorem k0_idx12_inb : ∀ (v67 : IVec S16 32) (v68 : IVec S16 32) (v110 : IVec S16 32) (k0_hw6 : k0_chk6 v67 v68 v110), ∀ a x, ((![v110, v68] : Fin 2 → IVec S16 32) a x).toNat < S512x2.size a := fun v67 v68 v110 k0_hw6 => k0_hw6.2

def k0_chk7 (v67 : IVec S16 32) (v68 : IVec S16 32) (v118 : IVec S16 32) : Prop :=
  (∀ a x, ((![v118, v67] : Fin 2 → IVec S16 32) a x).toNat < S512x2.size a) ∧
  (∀ a x, ((![v118, v68] : Fin 2 → IVec S16 32) a x).toNat < S512x2.size a)
theorem k0_idx13_inb : ∀ (v67 : IVec S16 32) (v68 : IVec S16 32) (v118 : IVec S16 32) (k0_hw7 : k0_chk7 v67 v68 v118), ∀ a x, ((![v118, v67] : Fin 2 → IVec S16 32) a x).toNat < S512x2.size a := fun v67 v68 v118 k0_hw7 => k0_hw7.1
theorem k0_idx14_inb : ∀ (v67 : IVec S16 32) (v68 : IVec S16 32) (v118 : IVec S16 32) (k0_hw7 : k0_chk7 v67 v68 v118), ∀ a x, ((![v118, v68] : Fin 2 → IVec S16 32) a x).toNat < S512x2.size a := fun v67 v68 v118 k0_hw7 => k0_hw7.2

def k0_chk8 (v67 : IVec S16 32) (v68 : IVec S16 32) (v126 : IVec S16 32) : Prop :=
  (∀ a x, ((![v126, v67] : Fin 2 → IVec S16 32) a x).toNat < S512x2.size a) ∧
  (∀ a x, ((![v126, v68] : Fin 2 → IVec S16 32) a x).toNat < S512x2.size a)
theorem k0_idx15_inb : ∀ (v67 : IVec S16 32) (v68 : IVec S16 32) (v126 : IVec S16 32) (k0_hw8 : k0_chk8 v67 v68 v126), ∀ a x, ((![v126, v67] : Fin 2 → IVec S16 32) a x).toNat < S512x2.size a := fun v67 v68 v126 k0_hw8 => k0_hw8.1
theorem k0_idx16_inb : ∀ (v67 : IVec S16 32) (v68 : IVec S16 32) (v126 : IVec S16 32) (k0_hw8 : k0_chk8 v67 v68 v126), ∀ a x, ((![v126, v68] : Fin 2 → IVec S16 32) a x).toNat < S512x2.size a := fun v67 v68 v126 k0_hw8 => k0_hw8.2

def k0_chk9 (v67 : IVec S16 32) (v68 : IVec S16 32) (v134 : IVec S16 32) : Prop :=
  (∀ a x, ((![v134, v67] : Fin 2 → IVec S16 32) a x).toNat < S512x2.size a) ∧
  (∀ a x, ((![v134, v68] : Fin 2 → IVec S16 32) a x).toNat < S512x2.size a)
theorem k0_idx17_inb : ∀ (v67 : IVec S16 32) (v68 : IVec S16 32) (v134 : IVec S16 32) (k0_hw9 : k0_chk9 v67 v68 v134), ∀ a x, ((![v134, v67] : Fin 2 → IVec S16 32) a x).toNat < S512x2.size a := fun v67 v68 v134 k0_hw9 => k0_hw9.1
theorem k0_idx18_inb : ∀ (v67 : IVec S16 32) (v68 : IVec S16 32) (v134 : IVec S16 32) (k0_hw9 : k0_chk9 v67 v68 v134), ∀ a x, ((![v134, v68] : Fin 2 → IVec S16 32) a x).toNat < S512x2.size a := fun v67 v68 v134 k0_hw9 => k0_hw9.2

def k0_chk10 (v67 : IVec S16 32) (v68 : IVec S16 32) (v142 : IVec S16 32) : Prop :=
  (∀ a x, ((![v142, v67] : Fin 2 → IVec S16 32) a x).toNat < S512x2.size a) ∧
  (∀ a x, ((![v142, v68] : Fin 2 → IVec S16 32) a x).toNat < S512x2.size a)
theorem k0_idx19_inb : ∀ (v67 : IVec S16 32) (v68 : IVec S16 32) (v142 : IVec S16 32) (k0_hw10 : k0_chk10 v67 v68 v142), ∀ a x, ((![v142, v67] : Fin 2 → IVec S16 32) a x).toNat < S512x2.size a := fun v67 v68 v142 k0_hw10 => k0_hw10.1
theorem k0_idx20_inb : ∀ (v67 : IVec S16 32) (v68 : IVec S16 32) (v142 : IVec S16 32) (k0_hw10 : k0_chk10 v67 v68 v142), ∀ a x, ((![v142, v68] : Fin 2 → IVec S16 32) a x).toNat < S512x2.size a := fun v67 v68 v142 k0_hw10 => k0_hw10.2

def k0_chk11 (v67 : IVec S16 32) (v68 : IVec S16 32) (v150 : IVec S16 32) : Prop :=
  (∀ a x, ((![v150, v67] : Fin 2 → IVec S16 32) a x).toNat < S512x2.size a) ∧
  (∀ a x, ((![v150, v68] : Fin 2 → IVec S16 32) a x).toNat < S512x2.size a)
theorem k0_idx21_inb : ∀ (v67 : IVec S16 32) (v68 : IVec S16 32) (v150 : IVec S16 32) (k0_hw11 : k0_chk11 v67 v68 v150), ∀ a x, ((![v150, v67] : Fin 2 → IVec S16 32) a x).toNat < S512x2.size a := fun v67 v68 v150 k0_hw11 => k0_hw11.1
theorem k0_idx22_inb : ∀ (v67 : IVec S16 32) (v68 : IVec S16 32) (v150 : IVec S16 32) (k0_hw11 : k0_chk11 v67 v68 v150), ∀ a x, ((![v150, v68] : Fin 2 → IVec S16 32) a x).toNat < S512x2.size a := fun v67 v68 v150 k0_hw11 => k0_hw11.2

def k0_chk12 (v67 : IVec S16 32) (v68 : IVec S16 32) (v158 : IVec S16 32) : Prop :=
  (∀ a x, ((![v158, v67] : Fin 2 → IVec S16 32) a x).toNat < S512x2.size a) ∧
  (∀ a x, ((![v158, v68] : Fin 2 → IVec S16 32) a x).toNat < S512x2.size a)
theorem k0_idx23_inb : ∀ (v67 : IVec S16 32) (v68 : IVec S16 32) (v158 : IVec S16 32) (k0_hw12 : k0_chk12 v67 v68 v158), ∀ a x, ((![v158, v67] : Fin 2 → IVec S16 32) a x).toNat < S512x2.size a := fun v67 v68 v158 k0_hw12 => k0_hw12.1
theorem k0_idx24_inb : ∀ (v67 : IVec S16 32) (v68 : IVec S16 32) (v158 : IVec S16 32) (k0_hw12 : k0_chk12 v67 v68 v158), ∀ a x, ((![v158, v68] : Fin 2 → IVec S16 32) a x).toNat < S512x2.size a := fun v67 v68 v158 k0_hw12 => k0_hw12.2

def k0_chk13 (v67 : IVec S16 32) (v68 : IVec S16 32) (v166 : IVec S16 32) : Prop :=
  (∀ a x, ((![v166, v67] : Fin 2 → IVec S16 32) a x).toNat < S512x2.size a) ∧
  (∀ a x, ((![v166, v68] : Fin 2 → IVec S16 32) a x).toNat < S512x2.size a)
theorem k0_idx25_inb : ∀ (v67 : IVec S16 32) (v68 : IVec S16 32) (v166 : IVec S16 32) (k0_hw13 : k0_chk13 v67 v68 v166), ∀ a x, ((![v166, v67] : Fin 2 → IVec S16 32) a x).toNat < S512x2.size a := fun v67 v68 v166 k0_hw13 => k0_hw13.1
theorem k0_idx26_inb : ∀ (v67 : IVec S16 32) (v68 : IVec S16 32) (v166 : IVec S16 32) (k0_hw13 : k0_chk13 v67 v68 v166), ∀ a x, ((![v166, v68] : Fin 2 → IVec S16 32) a x).toNat < S512x2.size a := fun v67 v68 v166 k0_hw13 => k0_hw13.2

def k0_chk14 (v67 : IVec S16 32) (v68 : IVec S16 32) (v174 : IVec S16 32) : Prop :=
  (∀ a x, ((![v174, v67] : Fin 2 → IVec S16 32) a x).toNat < S512x2.size a) ∧
  (∀ a x, ((![v174, v68] : Fin 2 → IVec S16 32) a x).toNat < S512x2.size a)
theorem k0_idx27_inb : ∀ (v67 : IVec S16 32) (v68 : IVec S16 32) (v174 : IVec S16 32) (k0_hw14 : k0_chk14 v67 v68 v174), ∀ a x, ((![v174, v67] : Fin 2 → IVec S16 32) a x).toNat < S512x2.size a := fun v67 v68 v174 k0_hw14 => k0_hw14.1
theorem k0_idx28_inb : ∀ (v67 : IVec S16 32) (v68 : IVec S16 32) (v174 : IVec S16 32) (k0_hw14 : k0_chk14 v67 v68 v174), ∀ a x, ((![v174, v68] : Fin 2 → IVec S16 32) a x).toNat < S512x2.size a := fun v67 v68 v174 k0_hw14 => k0_hw14.2

def k0_chk15 (v67 : IVec S16 32) (v68 : IVec S16 32) (v182 : IVec S16 32) : Prop :=
  (∀ a x, ((![v182, v67] : Fin 2 → IVec S16 32) a x).toNat < S512x2.size a) ∧
  (∀ a x, ((![v182, v68] : Fin 2 → IVec S16 32) a x).toNat < S512x2.size a)
theorem k0_idx29_inb : ∀ (v67 : IVec S16 32) (v68 : IVec S16 32) (v182 : IVec S16 32) (k0_hw15 : k0_chk15 v67 v68 v182), ∀ a x, ((![v182, v67] : Fin 2 → IVec S16 32) a x).toNat < S512x2.size a := fun v67 v68 v182 k0_hw15 => k0_hw15.1
theorem k0_idx30_inb : ∀ (v67 : IVec S16 32) (v68 : IVec S16 32) (v182 : IVec S16 32) (k0_hw15 : k0_chk15 v67 v68 v182), ∀ a x, ((![v182, v68] : Fin 2 → IVec S16 32) a x).toNat < S512x2.size a := fun v67 v68 v182 k0_hw15 => k0_hw15.2

def k0_chk16 (v67 : IVec S16 32) (v68 : IVec S16 32) (v190 : IVec S16 32) : Prop :=
  (∀ a x, ((![v190, v67] : Fin 2 → IVec S16 32) a x).toNat < S512x2.size a) ∧
  (∀ a x, ((![v190, v68] : Fin 2 → IVec S16 32) a x).toNat < S512x2.size a)
theorem k0_idx31_inb : ∀ (v67 : IVec S16 32) (v68 : IVec S16 32) (v190 : IVec S16 32) (k0_hw16 : k0_chk16 v67 v68 v190), ∀ a x, ((![v190, v67] : Fin 2 → IVec S16 32) a x).toNat < S512x2.size a := fun v67 v68 v190 k0_hw16 => k0_hw16.1
theorem k0_idx32_inb : ∀ (v67 : IVec S16 32) (v68 : IVec S16 32) (v190 : IVec S16 32) (k0_hw16 : k0_chk16 v67 v68 v190), ∀ a x, ((![v190, v68] : Fin 2 → IVec S16 32) a x).toNat < S512x2.size a := fun v67 v68 v190 k0_hw16 => k0_hw16.2

def k0_chk17 (v67 : IVec S16 32) (v68 : IVec S16 32) (v198 : IVec S16 32) : Prop :=
  (∀ a x, ((![v198, v67] : Fin 2 → IVec S16 32) a x).toNat < S512x2.size a) ∧
  (∀ a x, ((![v198, v68] : Fin 2 → IVec S16 32) a x).toNat < S512x2.size a)
theorem k0_idx33_inb : ∀ (v67 : IVec S16 32) (v68 : IVec S16 32) (v198 : IVec S16 32) (k0_hw17 : k0_chk17 v67 v68 v198), ∀ a x, ((![v198, v67] : Fin 2 → IVec S16 32) a x).toNat < S512x2.size a := fun v67 v68 v198 k0_hw17 => k0_hw17.1
theorem k0_idx34_inb : ∀ (v67 : IVec S16 32) (v68 : IVec S16 32) (v198 : IVec S16 32) (k0_hw17 : k0_chk17 v67 v68 v198), ∀ a x, ((![v198, v68] : Fin 2 → IVec S16 32) a x).toNat < S512x2.size a := fun v67 v68 v198 k0_hw17 => k0_hw17.2

def k0_chk18 (v67 : IVec S16 32) (v68 : IVec S16 32) (v206 : IVec S16 32) : Prop :=
  (∀ a x, ((![v206, v67] : Fin 2 → IVec S16 32) a x).toNat < S512x2.size a) ∧
  (∀ a x, ((![v206, v68] : Fin 2 → IVec S16 32) a x).toNat < S512x2.size a)
theorem k0_idx35_inb : ∀ (v67 : IVec S16 32) (v68 : IVec S16 32) (v206 : IVec S16 32) (k0_hw18 : k0_chk18 v67 v68 v206), ∀ a x, ((![v206, v67] : Fin 2 → IVec S16 32) a x).toNat < S512x2.size a := fun v67 v68 v206 k0_hw18 => k0_hw18.1
theorem k0_idx36_inb : ∀ (v67 : IVec S16 32) (v68 : IVec S16 32) (v206 : IVec S16 32) (k0_hw18 : k0_chk18 v67 v68 v206), ∀ a x, ((![v206, v68] : Fin 2 → IVec S16 32) a x).toNat < S512x2.size a := fun v67 v68 v206 k0_hw18 => k0_hw18.2

def k0_chk19 (v67 : IVec S16 32) (v68 : IVec S16 32) (v214 : IVec S16 32) : Prop :=
  (∀ a x, ((![v214, v67] : Fin 2 → IVec S16 32) a x).toNat < S512x2.size a) ∧
  (∀ a x, ((![v214, v68] : Fin 2 → IVec S16 32) a x).toNat < S512x2.size a)
theorem k0_idx37_inb : ∀ (v67 : IVec S16 32) (v68 : IVec S16 32) (v214 : IVec S16 32) (k0_hw19 : k0_chk19 v67 v68 v214), ∀ a x, ((![v214, v67] : Fin 2 → IVec S16 32) a x).toNat < S512x2.size a := fun v67 v68 v214 k0_hw19 => k0_hw19.1
theorem k0_idx38_inb : ∀ (v67 : IVec S16 32) (v68 : IVec S16 32) (v214 : IVec S16 32) (k0_hw19 : k0_chk19 v67 v68 v214), ∀ a x, ((![v214, v68] : Fin 2 → IVec S16 32) a x).toNat < S512x2.size a := fun v67 v68 v214 k0_hw19 => k0_hw19.2

def k0_chk20 (v67 : IVec S16 32) (v68 : IVec S16 32) (v222 : IVec S16 32) : Prop :=
  (∀ a x, ((![v222, v67] : Fin 2 → IVec S16 32) a x).toNat < S512x2.size a) ∧
  (∀ a x, ((![v222, v68] : Fin 2 → IVec S16 32) a x).toNat < S512x2.size a)
theorem k0_idx39_inb : ∀ (v67 : IVec S16 32) (v68 : IVec S16 32) (v222 : IVec S16 32) (k0_hw20 : k0_chk20 v67 v68 v222), ∀ a x, ((![v222, v67] : Fin 2 → IVec S16 32) a x).toNat < S512x2.size a := fun v67 v68 v222 k0_hw20 => k0_hw20.1
theorem k0_idx40_inb : ∀ (v67 : IVec S16 32) (v68 : IVec S16 32) (v222 : IVec S16 32) (k0_hw20 : k0_chk20 v67 v68 v222), ∀ a x, ((![v222, v68] : Fin 2 → IVec S16 32) a x).toNat < S512x2.size a := fun v67 v68 v222 k0_hw20 => k0_hw20.2

def k0_chk21 (v67 : IVec S16 32) (v68 : IVec S16 32) (v230 : IVec S16 32) : Prop :=
  (∀ a x, ((![v230, v67] : Fin 2 → IVec S16 32) a x).toNat < S512x2.size a) ∧
  (∀ a x, ((![v230, v68] : Fin 2 → IVec S16 32) a x).toNat < S512x2.size a)
theorem k0_idx41_inb : ∀ (v67 : IVec S16 32) (v68 : IVec S16 32) (v230 : IVec S16 32) (k0_hw21 : k0_chk21 v67 v68 v230), ∀ a x, ((![v230, v67] : Fin 2 → IVec S16 32) a x).toNat < S512x2.size a := fun v67 v68 v230 k0_hw21 => k0_hw21.1
theorem k0_idx42_inb : ∀ (v67 : IVec S16 32) (v68 : IVec S16 32) (v230 : IVec S16 32) (k0_hw21 : k0_chk21 v67 v68 v230), ∀ a x, ((![v230, v68] : Fin 2 → IVec S16 32) a x).toNat < S512x2.size a := fun v67 v68 v230 k0_hw21 => k0_hw21.2

def k0_chk22 (v67 : IVec S16 32) (v68 : IVec S16 32) (v238 : IVec S16 32) : Prop :=
  (∀ a x, ((![v238, v67] : Fin 2 → IVec S16 32) a x).toNat < S512x2.size a) ∧
  (∀ a x, ((![v238, v68] : Fin 2 → IVec S16 32) a x).toNat < S512x2.size a)
theorem k0_idx43_inb : ∀ (v67 : IVec S16 32) (v68 : IVec S16 32) (v238 : IVec S16 32) (k0_hw22 : k0_chk22 v67 v68 v238), ∀ a x, ((![v238, v67] : Fin 2 → IVec S16 32) a x).toNat < S512x2.size a := fun v67 v68 v238 k0_hw22 => k0_hw22.1
theorem k0_idx44_inb : ∀ (v67 : IVec S16 32) (v68 : IVec S16 32) (v238 : IVec S16 32) (k0_hw22 : k0_chk22 v67 v68 v238), ∀ a x, ((![v238, v68] : Fin 2 → IVec S16 32) a x).toNat < S512x2.size a := fun v67 v68 v238 k0_hw22 => k0_hw22.2

def k0_chk23 (v67 : IVec S16 32) (v68 : IVec S16 32) (v246 : IVec S16 32) : Prop :=
  (∀ a x, ((![v246, v67] : Fin 2 → IVec S16 32) a x).toNat < S512x2.size a) ∧
  (∀ a x, ((![v246, v68] : Fin 2 → IVec S16 32) a x).toNat < S512x2.size a)
theorem k0_idx45_inb : ∀ (v67 : IVec S16 32) (v68 : IVec S16 32) (v246 : IVec S16 32) (k0_hw23 : k0_chk23 v67 v68 v246), ∀ a x, ((![v246, v67] : Fin 2 → IVec S16 32) a x).toNat < S512x2.size a := fun v67 v68 v246 k0_hw23 => k0_hw23.1
theorem k0_idx46_inb : ∀ (v67 : IVec S16 32) (v68 : IVec S16 32) (v246 : IVec S16 32) (k0_hw23 : k0_chk23 v67 v68 v246), ∀ a x, ((![v246, v68] : Fin 2 → IVec S16 32) a x).toNat < S512x2.size a := fun v67 v68 v246 k0_hw23 => k0_hw23.2

def k0_chk24 (v67 : IVec S16 32) (v68 : IVec S16 32) (v254 : IVec S16 32) : Prop :=
  (∀ a x, ((![v254, v67] : Fin 2 → IVec S16 32) a x).toNat < S512x2.size a) ∧
  (∀ a x, ((![v254, v68] : Fin 2 → IVec S16 32) a x).toNat < S512x2.size a)
theorem k0_idx47_inb : ∀ (v67 : IVec S16 32) (v68 : IVec S16 32) (v254 : IVec S16 32) (k0_hw24 : k0_chk24 v67 v68 v254), ∀ a x, ((![v254, v67] : Fin 2 → IVec S16 32) a x).toNat < S512x2.size a := fun v67 v68 v254 k0_hw24 => k0_hw24.1
theorem k0_idx48_inb : ∀ (v67 : IVec S16 32) (v68 : IVec S16 32) (v254 : IVec S16 32) (k0_hw24 : k0_chk24 v67 v68 v254), ∀ a x, ((![v254, v68] : Fin 2 → IVec S16 32) a x).toNat < S512x2.size a := fun v67 v68 v254 k0_hw24 => k0_hw24.2

def k0_chk25 (v67 : IVec S16 32) (v68 : IVec S16 32) (v262 : IVec S16 32) : Prop :=
  (∀ a x, ((![v262, v67] : Fin 2 → IVec S16 32) a x).toNat < S512x2.size a) ∧
  (∀ a x, ((![v262, v68] : Fin 2 → IVec S16 32) a x).toNat < S512x2.size a)
theorem k0_idx49_inb : ∀ (v67 : IVec S16 32) (v68 : IVec S16 32) (v262 : IVec S16 32) (k0_hw25 : k0_chk25 v67 v68 v262), ∀ a x, ((![v262, v67] : Fin 2 → IVec S16 32) a x).toNat < S512x2.size a := fun v67 v68 v262 k0_hw25 => k0_hw25.1
theorem k0_idx50_inb : ∀ (v67 : IVec S16 32) (v68 : IVec S16 32) (v262 : IVec S16 32) (k0_hw25 : k0_chk25 v67 v68 v262), ∀ a x, ((![v262, v68] : Fin 2 → IVec S16 32) a x).toNat < S512x2.size a := fun v67 v68 v262 k0_hw25 => k0_hw25.2

def k0_chk26 (v67 : IVec S16 32) (v68 : IVec S16 32) (v270 : IVec S16 32) : Prop :=
  (∀ a x, ((![v270, v67] : Fin 2 → IVec S16 32) a x).toNat < S512x2.size a) ∧
  (∀ a x, ((![v270, v68] : Fin 2 → IVec S16 32) a x).toNat < S512x2.size a)
theorem k0_idx51_inb : ∀ (v67 : IVec S16 32) (v68 : IVec S16 32) (v270 : IVec S16 32) (k0_hw26 : k0_chk26 v67 v68 v270), ∀ a x, ((![v270, v67] : Fin 2 → IVec S16 32) a x).toNat < S512x2.size a := fun v67 v68 v270 k0_hw26 => k0_hw26.1
theorem k0_idx52_inb : ∀ (v67 : IVec S16 32) (v68 : IVec S16 32) (v270 : IVec S16 32) (k0_hw26 : k0_chk26 v67 v68 v270), ∀ a x, ((![v270, v68] : Fin 2 → IVec S16 32) a x).toNat < S512x2.size a := fun v67 v68 v270 k0_hw26 => k0_hw26.2

def k0_chk27 (v67 : IVec S16 32) (v68 : IVec S16 32) (v278 : IVec S16 32) : Prop :=
  (∀ a x, ((![v278, v67] : Fin 2 → IVec S16 32) a x).toNat < S512x2.size a) ∧
  (∀ a x, ((![v278, v68] : Fin 2 → IVec S16 32) a x).toNat < S512x2.size a)
theorem k0_idx53_inb : ∀ (v67 : IVec S16 32) (v68 : IVec S16 32) (v278 : IVec S16 32) (k0_hw27 : k0_chk27 v67 v68 v278), ∀ a x, ((![v278, v67] : Fin 2 → IVec S16 32) a x).toNat < S512x2.size a := fun v67 v68 v278 k0_hw27 => k0_hw27.1
theorem k0_idx54_inb : ∀ (v67 : IVec S16 32) (v68 : IVec S16 32) (v278 : IVec S16 32) (k0_hw27 : k0_chk27 v67 v68 v278), ∀ a x, ((![v278, v68] : Fin 2 → IVec S16 32) a x).toNat < S512x2.size a := fun v67 v68 v278 k0_hw27 => k0_hw27.2

def k0_chk28 (v67 : IVec S16 32) (v68 : IVec S16 32) (v286 : IVec S16 32) : Prop :=
  (∀ a x, ((![v286, v67] : Fin 2 → IVec S16 32) a x).toNat < S512x2.size a) ∧
  (∀ a x, ((![v286, v68] : Fin 2 → IVec S16 32) a x).toNat < S512x2.size a)
theorem k0_idx55_inb : ∀ (v67 : IVec S16 32) (v68 : IVec S16 32) (v286 : IVec S16 32) (k0_hw28 : k0_chk28 v67 v68 v286), ∀ a x, ((![v286, v67] : Fin 2 → IVec S16 32) a x).toNat < S512x2.size a := fun v67 v68 v286 k0_hw28 => k0_hw28.1
theorem k0_idx56_inb : ∀ (v67 : IVec S16 32) (v68 : IVec S16 32) (v286 : IVec S16 32) (k0_hw28 : k0_chk28 v67 v68 v286), ∀ a x, ((![v286, v68] : Fin 2 → IVec S16 32) a x).toNat < S512x2.size a := fun v67 v68 v286 k0_hw28 => k0_hw28.2

def k0_chk29 (v67 : IVec S16 32) (v68 : IVec S16 32) (v294 : IVec S16 32) : Prop :=
  (∀ a x, ((![v294, v67] : Fin 2 → IVec S16 32) a x).toNat < S512x2.size a) ∧
  (∀ a x, ((![v294, v68] : Fin 2 → IVec S16 32) a x).toNat < S512x2.size a)
theorem k0_idx57_inb : ∀ (v67 : IVec S16 32) (v68 : IVec S16 32) (v294 : IVec S16 32) (k0_hw29 : k0_chk29 v67 v68 v294), ∀ a x, ((![v294, v67] : Fin 2 → IVec S16 32) a x).toNat < S512x2.size a := fun v67 v68 v294 k0_hw29 => k0_hw29.1
theorem k0_idx58_inb : ∀ (v67 : IVec S16 32) (v68 : IVec S16 32) (v294 : IVec S16 32) (k0_hw29 : k0_chk29 v67 v68 v294), ∀ a x, ((![v294, v68] : Fin 2 → IVec S16 32) a x).toNat < S512x2.size a := fun v67 v68 v294 k0_hw29 => k0_hw29.2

def k0_chk30 (v67 : IVec S16 32) (v68 : IVec S16 32) (v302 : IVec S16 32) : Prop :=
  (∀ a x, ((![v302, v67] : Fin 2 → IVec S16 32) a x).toNat < S512x2.size a) ∧
  (∀ a x, ((![v302, v68] : Fin 2 → IVec S16 32) a x).toNat < S512x2.size a)
theorem k0_idx59_inb : ∀ (v67 : IVec S16 32) (v68 : IVec S16 32) (v302 : IVec S16 32) (k0_hw30 : k0_chk30 v67 v68 v302), ∀ a x, ((![v302, v67] : Fin 2 → IVec S16 32) a x).toNat < S512x2.size a := fun v67 v68 v302 k0_hw30 => k0_hw30.1
theorem k0_idx60_inb : ∀ (v67 : IVec S16 32) (v68 : IVec S16 32) (v302 : IVec S16 32) (k0_hw30 : k0_chk30 v67 v68 v302), ∀ a x, ((![v302, v68] : Fin 2 → IVec S16 32) a x).toNat < S512x2.size a := fun v67 v68 v302 k0_hw30 => k0_hw30.2

def k0_chk31 (v67 : IVec S16 32) (v68 : IVec S16 32) (v310 : IVec S16 32) : Prop :=
  (∀ a x, ((![v310, v67] : Fin 2 → IVec S16 32) a x).toNat < S512x2.size a) ∧
  (∀ a x, ((![v310, v68] : Fin 2 → IVec S16 32) a x).toNat < S512x2.size a)
theorem k0_idx61_inb : ∀ (v67 : IVec S16 32) (v68 : IVec S16 32) (v310 : IVec S16 32) (k0_hw31 : k0_chk31 v67 v68 v310), ∀ a x, ((![v310, v67] : Fin 2 → IVec S16 32) a x).toNat < S512x2.size a := fun v67 v68 v310 k0_hw31 => k0_hw31.1
theorem k0_idx62_inb : ∀ (v67 : IVec S16 32) (v68 : IVec S16 32) (v310 : IVec S16 32) (k0_hw31 : k0_chk31 v67 v68 v310), ∀ a x, ((![v310, v68] : Fin 2 → IVec S16 32) a x).toNat < S512x2.size a := fun v67 v68 v310 k0_hw31 => k0_hw31.2

def k0_chk32 (v67 : IVec S16 32) (v68 : IVec S16 32) (v318 : IVec S16 32) : Prop :=
  (∀ a x, ((![v318, v67] : Fin 2 → IVec S16 32) a x).toNat < S512x2.size a) ∧
  (∀ a x, ((![v318, v68] : Fin 2 → IVec S16 32) a x).toNat < S512x2.size a)
theorem k0_idx63_inb : ∀ (v67 : IVec S16 32) (v68 : IVec S16 32) (v318 : IVec S16 32) (k0_hw32 : k0_chk32 v67 v68 v318), ∀ a x, ((![v318, v67] : Fin 2 → IVec S16 32) a x).toNat < S512x2.size a := fun v67 v68 v318 k0_hw32 => k0_hw32.1
theorem k0_idx64_inb : ∀ (v67 : IVec S16 32) (v68 : IVec S16 32) (v318 : IVec S16 32) (k0_hw32 : k0_chk32 v67 v68 v318), ∀ a x, ((![v318, v68] : Fin 2 → IVec S16 32) a x).toNat < S512x2.size a := fun v67 v68 v318 k0_hw32 => k0_hw32.2
def k0_off2 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c0_i32_11 : BitVec 32 := 0#32
  let v30 : BitVec 1 := Scalar.cmpi .sgt v28 c0_i32_11
  let v31 : BitVec 32 := Scalar.extui v30
  let c0_i32_12 : BitVec 32 := 0#32
  let v32 : BitVec 1 := Scalar.cmpi .slt v28 c0_i32_12
  let v33 : BitVec 32 := Scalar.extui v32
  let v34 : BitVec 32 := Scalar.subi v31 v33
  let c2_i32_10 : BitVec 32 := 2#32
  let c0_i32_13 : BitVec 32 := 0#32
  let v35 : BitVec 1 := Scalar.cmpi .sgt c2_i32_10 c0_i32_13
  let v36 : BitVec 32 := Scalar.extui v35
  let c0_i32_14 : BitVec 32 := 0#32
  let v37 : BitVec 1 := Scalar.cmpi .slt c2_i32_10 c0_i32_14
  let v38 : BitVec 32 := Scalar.extui v37
  let v39 : BitVec 32 := Scalar.subi v36 v38
  let v40 : BitVec 1 := Scalar.cmpi .ne v34 v39
  let v41 : BitVec 32 := Scalar.remsi v28 c2_i32_10
  let c0_i32_15 : BitVec 32 := 0#32
  let v42 : BitVec 1 := Scalar.cmpi .ne v41 c0_i32_15
  let v43 : BitVec 1 := Scalar.andi v40 v42
  let v29 : BitVec 32 := Scalar.divsi v28 c2_i32_10
  let c1_i32_16 : BitVec 32 := 1#32
  let v44 : BitVec 32 := Scalar.subi v29 c1_i32_16
  let v45 : BitVec 32 := Scalar.select v43 v44 v29
  let c0_i32_87 : BitVec 32 := 0#32
  let c2_i32_17 : BitVec 32 := 2#32
  let c0_i32_18 : BitVec 32 := 0#32
  let v46 : BitVec 1 := Scalar.cmpi .eq c2_i32_17 c0_i32_18
  let c1_i32_19 : BitVec 32 := 1#32
  let v47 : BitVec 32 := Scalar.select v46 c1_i32_19 c2_i32_17
  let v48 : BitVec 32 := Scalar.remsi v28 v47
  let c0_i32_21 : BitVec 32 := 0#32
  let v50 : BitVec 1 := Scalar.cmpi .slt v48 c0_i32_21
  let c0_i32_22 : BitVec 32 := 0#32
  let v51 : BitVec 1 := Scalar.cmpi .slt v47 c0_i32_22
  let v52 : BitVec 1 := Scalar.xori v50 v51
  let c0_i32_20 : BitVec 32 := 0#32
  let v49 : BitVec 1 := Scalar.cmpi .ne v48 c0_i32_20
  let v53 : BitVec 1 := Scalar.andi v52 v49
  let v54 : BitVec 32 := Scalar.addi v48 v47
  let v55 : BitVec 32 := Scalar.select v53 v54 v48
  let c512_i32 : BitVec 32 := 512#32
  let v56 : BitVec 32 := Scalar.muli v55 c512_i32
  ![v18.toNat, v45.toNat, 0, v56.toNat]
abbrev grid1 : Pipeline.Grid := ⟨1, ![1], ![false]⟩

abbrev pre1 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S8x2x1x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S8x768 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8x4x2048x768 : Shape := ⟨4, ![8, 4, 2048, 768]⟩
abbrev S8 : Shape := ⟨1, ![8]⟩
abbrev S8x2048x2 : Shape := ⟨3, ![8, 2048, 2]⟩
abbrev S320x320 : Shape := ⟨2, ![320, 320]⟩
abbrev S8x1x2048x768 : Shape := ⟨4, ![8, 1, 2048, 768]⟩
abbrev S8x2048x768 : Shape := ⟨3, ![8, 2048, 768]⟩
abbrev S8x2048x1 : Shape := ⟨3, ![8, 2048, 1]⟩
abbrev S8x2048 : Shape := ⟨2, ![8, 2048]⟩
abbrev S_ : Shape := ⟨0, ![]⟩
abbrev S2048 : Shape := ⟨1, ![2048]⟩
abbrev S1x2048 : Shape := ⟨2, ![1, 2048]⟩
abbrev S8x1 : Shape := ⟨2, ![8, 1]⟩
abbrev S8x768 : Shape := ⟨2, ![8, 768]⟩

abbrev nBuf : Space → Nat
  | .hbm => 42
  | .vmem => 0
  | .smem => 0
  | _ => 0

abbrev bufTy : (tb : Table) → Fin (tcTables nBuf tb) → BufTy
  | .hbm, ⟨0, _⟩ => ⟨S8x4x2048x768, .f32⟩
  | .hbm, ⟨1, _⟩ => ⟨S8, .i32⟩
  | .hbm, ⟨2, _⟩ => ⟨S8x2048x2, .i32⟩
  | .hbm, ⟨3, _⟩ => ⟨S320x320, .f32⟩
  | .hbm, ⟨4, _⟩ => ⟨S8x1x2048x768, .f32⟩
  | .hbm, ⟨5, _⟩ => ⟨S8x2048x768, .f32⟩
  | .hbm, ⟨6, _⟩ => ⟨S8x2048x1, .i32⟩
  | .hbm, ⟨7, _⟩ => ⟨S8x2048, .i32⟩
  | .hbm, ⟨8, _⟩ => ⟨S8x2048x1, .i32⟩
  | .hbm, ⟨9, _⟩ => ⟨S8x2048, .i32⟩
  | .hbm, ⟨10, _⟩ => ⟨S_, .i32⟩
  | .hbm, ⟨11, _⟩ => ⟨S8x2048, .i32⟩
  | .hbm, ⟨12, _⟩ => ⟨S8x2048, .i1⟩
  | .hbm, ⟨13, _⟩ => ⟨S_, .i32⟩
  | .hbm, ⟨14, _⟩ => ⟨S8x2048, .i32⟩
  | .hbm, ⟨15, _⟩ => ⟨S8x2048, .i32⟩
  | .hbm, ⟨16, _⟩ => ⟨S8x2048, .i32⟩
  | .hbm, ⟨17, _⟩ => ⟨S_, .i32⟩
  | .hbm, ⟨18, _⟩ => ⟨S8x2048, .i32⟩
  | .hbm, ⟨19, _⟩ => ⟨S8x2048, .i1⟩
  | .hbm, ⟨20, _⟩ => ⟨S_, .i32⟩
  | .hbm, ⟨21, _⟩ => ⟨S8x2048, .i32⟩
  | .hbm, ⟨22, _⟩ => ⟨S8x2048, .i32⟩
  | .hbm, ⟨23, _⟩ => ⟨S8x2048, .i32⟩
  | .hbm, ⟨24, _⟩ => ⟨S8x2048x1, .i32⟩
  | .hbm, ⟨25, _⟩ => ⟨S8x2048x1, .i32⟩
  | .hbm, ⟨26, _⟩ => ⟨S8x2048x2, .i32⟩
  | .hbm, ⟨27, _⟩ => ⟨S8x2048, .f32⟩
  | .hbm, ⟨28, _⟩ => ⟨S2048, .i32⟩
  | .hbm, ⟨29, _⟩ => ⟨S1x2048, .i32⟩
  | .hbm, ⟨30, _⟩ => ⟨S8x1, .i32⟩
  | .hbm, ⟨31, _⟩ => ⟨S8x2048, .i32⟩
  | .hbm, ⟨32, _⟩ => ⟨S8x2048, .i32⟩
  | .hbm, ⟨33, _⟩ => ⟨S8x2048, .i1⟩
  | .hbm, ⟨34, _⟩ => ⟨S_, .f32⟩
  | .hbm, ⟨35, _⟩ => ⟨S8x2048, .f32⟩
  | .hbm, ⟨36, _⟩ => ⟨S8x2048, .f32⟩
  | .hbm, ⟨37, _⟩ => ⟨S8x2048x1, .f32⟩
  | .hbm, ⟨38, _⟩ => ⟨S8x2048x768, .f32⟩
  | .hbm, ⟨39, _⟩ => ⟨S8x2048x768, .f32⟩
  | .hbm, ⟨40, _⟩ => ⟨S_, .f32⟩
  | .hbm, ⟨41, _⟩ => ⟨S8x768, .f32⟩
  | _, _ => ⟨S8x4x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_c_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_3 : Ref sig .tc := ⟨.hbm, 40, rfl⟩
abbrev main_v31 : Ref sig .tc := ⟨.hbm, 41, rfl⟩

abbrev nD : Nat := 1
abbrev τ : Topo := Topo.v7x

variable {F : FTy → Type} [FloatOps F]
-- ==== Proof.Base.lean ====
/-
  The program as the launch theorem sees it, and the resource algebra the proofs run in: the handshakes' rounds of
  the SparseCore call, the staging rounds of the TensorCore call's pipeline, and the counters of the transfers.
-/
module

public import proofs.«01_k».proof.KernelIdeal
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.MixedBatch
public import Idealize.ShloMosaic.Lib.Tactic
public import proofs.«01_k».proof.Proof.Gen.KernelIdeal
public import proofs.«01_k».proof.Proof.Gen.KernelIdeal.Launch

@[expose] public section

noncomputable section

namespace Cert.Proof

open Cert.KernelIdeal Cert.KernelIdeal.Gen
open Idealize.ShloMosaic
open Idealize.ShloMosaic.SparseCore.Cfg (HIx)
open Idealize.SL Idealize.SL.RA Idealize.SL.BI
open Idealize.SL.Sem
open Idealize.ShloMosaic.Rounds
open Idealize.ShloMosaic.Pipeline

variable {F : FTy → Type} [FloatOps F]

/-- The labels of the program without the SparseCore call's own: the kernels' and the pipeline's. -/
abbrev ΛP : Labels := Pipeline.Sig Λ₀ (Fin 1) fun p => (pcfgs (F := F) p).Adm
/-- The SparseCore call. -/
abbrev K : SparseCore.Cfg τ sig (ΛP (F := F)) 1 := sc (F := F)
/-- The body table below the SparseCore call. -/
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshakes' rounds. -/
abbrev UH : Type := URounds (GSem nD τ sig) ℕ
/-- The staging cells' rounds. -/
abbrev UP : Type := URounds (GSem nD τ sig) Unit
abbrev UU : Type := UH × (UP × Counters)

/-- The model every assertion of the certificate is over. -/
abbrev MK (F : FTy → Type) : Type := MT nD τ sig (HIx 1) (Elt F) ℕ UU ℕ

abbrev EH : Emb UH (MT nD τ sig (HIx 1) (Elt F) ℕ UU ℕ) := embL
/-- The staging rounds' place in the algebra: the left half of the right factor. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
instance EP_landsIn : (EP (F := F)).LandsIn (upEmb : UEmb _ (MT nD τ sig (HIx 1) (Elt F) ℕ UU ℕ)) := by
  unfold EP; infer_instance
/-- The transfers' counters. -/
abbrev EC : UEmb Counters (MT nD τ sig (HIx 1) (Elt F) ℕ UU ℕ) := countersEmb

end Cert.Proof

end
-- ==== Proof.TcSlot.lean ====
/-
  One buffer of the TensorCore body: what it holds while rows of one batch are copied into it by one transfer or by
  up to sixteen transfers of 64 rows, all of them on the buffer's own semaphore.
-/
module

public import proofs.«01_k».proof.Proof.Base
public import Idealize.ShloMosaic.Lib.ValueLayout
public import Idealize.ShloMosaic.Lib.Pipeline.ValueKit.Geometry

@[expose] public section

noncomputable section

namespace Cert.Proof

open Cert.KernelIdeal Cert.KernelIdeal.Gen
open Idealize.ShloMosaic Idealize.ShloMosaic.Transfers
open Idealize.ShloMosaic.SparseCore.Cfg (HIx)
open Idealize.SL Idealize.SL.RA Idealize.SL.BI Idealize.SL.BI.Laws Idealize.SL.ProofMode
open Idealize.SL.BI.BIBase
open Idealize.SL.Sem
open Idealize.ShloMosaic.ValueIdx

variable {F : FTy → Type} [FloatOps F]

local notation "𝕄" => MT nD τ sig (HIx 1) (Elt F) ℕ UU ℕ

/-- The rows of batch `b` that block `j` of 1024 rows holds, of the last of the four planes. -/
def blk (x : Memref sig .tc .hbm S8x4x2048x768 .f32) (fx : x.view.ty.Contents (Elt F)) (b : Fin 8) (j : Fin 2) : S1024x768.Idx → Elt F .f32 :=
  fun y => x.view.read (Elt F) fx (ix4 b (3 : Fin 4) (⟨1024 * j.val + (y 0).val, by have := (y 0).isLt; have : (y 0).val < 1024 := this; have := j.isLt; omega⟩ : Fin 2048) (y 1))

/-- The elements of the buffer in rows `64 k` to `64 k + 63`. -/
def rowsSet (buf : Memref sig .tc .vmem S1024x768 .f32) (k : ℕ) : Finset buf.view.ty.Idx :=
  (Finset.univ.filter fun y : S1024x768.Idx => (y 0).val / 64 = k).map buf.view.emb

/-- The elements of the buffer in the rows below `64 k`. -/
def rowsBelow (buf : Memref sig .tc .vmem S1024x768 .f32) (k : ℕ) : Finset buf.view.ty.Idx :=
  (Finset.univ.filter fun y : S1024x768.Idx => (y 0).val / 64 < k).map buf.view.emb

theorem mem_rowsSet (buf : Memref sig .tc .vmem S1024x768 .f32) (k : ℕ) (i : buf.view.ty.Idx) :
    i ∈ rowsSet buf k ↔ ∃ y : S1024x768.Idx, (y 0).val / 64 = k ∧ buf.view.emb y = i := by
  simp [rowsSet]

theorem mem_rowsBelow (buf : Memref sig .tc .vmem S1024x768 .f32) (k : ℕ) (i : buf.view.ty.Idx) :
    i ∈ rowsBelow buf k ↔ ∃ y : S1024x768.Idx, (y 0).val / 64 < k ∧ buf.view.emb y = i := by
  simp [rowsBelow]

theorem rowsSet_disjoint (buf : Memref sig .tc .vmem S1024x768 .f32) {k k' : ℕ} (h : k ≠ k') :
    Disjoint (rowsSet buf k) (rowsSet buf k') := by
  rw [Finset.disjoint_left]
  intro i hi hi'
  obtain ⟨y, hy, rfl⟩ := (mem_rowsSet ..).1 hi
  obtain ⟨y', hy', he⟩ := (mem_rowsSet ..).1 hi'
  have := buf.view.emb.injective he
  subst this
  exact h (hy.symm.trans hy')

theorem rowsBelow_succ (buf : Memref sig .tc .vmem S1024x768 .f32) (k : ℕ) :
    Finset.univ \ rowsBelow buf (k + 1) = (Finset.univ \ rowsBelow buf k) \ rowsSet buf k := by
  have hu : rowsBelow buf (k + 1) = rowsBelow buf k ∪ rowsSet buf k := by
    refine Finset.ext fun i => ⟨fun h => ?_, fun h => ?_⟩
    · obtain ⟨y, hy, e⟩ := (mem_rowsBelow ..).1 h
      rcases Nat.lt_or_ge ((y 0).val / 64) k with hlt | hge
      · exact Finset.mem_union_left _ ((mem_rowsBelow ..).2 ⟨y, hlt, e⟩)
      · exact Finset.mem_union_right _ ((mem_rowsSet ..).2 ⟨y, by omega, e⟩)
    · rcases Finset.mem_union.1 h with h | h
      · obtain ⟨y, hy, e⟩ := (mem_rowsBelow ..).1 h
        exact (mem_rowsBelow ..).2 ⟨y, by omega, e⟩
      · obtain ⟨y, hy, e⟩ := (mem_rowsSet ..).1 h
        exact (mem_rowsBelow ..).2 ⟨y, by omega, e⟩
  rw [hu]
  exact (sdiff_sdiff_left (a := (Finset.univ : Finset buf.view.ty.Idx))).symm

theorem rowsSet_subset (buf : Memref sig .tc .vmem S1024x768 .f32) (k : ℕ) :
    rowsSet buf k ⊆ Finset.univ \ rowsBelow buf k := by
  intro i hi
  obtain ⟨y, hy, rfl⟩ := (mem_rowsSet ..).1 hi
  refine Finset.mem_sdiff.2 ⟨Finset.mem_univ _, fun hm => ?_⟩
  obtain ⟨y', hy', he⟩ := (mem_rowsBelow ..).1 hm
  have := buf.view.emb.injective he
  subst this
  omega

theorem rowsBelow_eq_biUnion (buf : Memref sig .tc .vmem S1024x768 .f32) (n : ℕ) :
    rowsBelow buf n = (Finset.univ : Finset (Fin n)).biUnion fun t => rowsSet buf t.val := by
  ext i
  refine (mem_rowsBelow ..).trans ⟨?_, fun h => ?_⟩
  · rintro ⟨y, hy, e⟩
    exact Finset.mem_biUnion.2 ⟨⟨_, hy⟩, Finset.mem_univ _, (mem_rowsSet ..).2 ⟨y, rfl, e⟩⟩
  · obtain ⟨t, -, ht⟩ := Finset.mem_biUnion.1 h
    obtain ⟨y, hy, e⟩ := (mem_rowsSet ..).1 ht
    exact ⟨y, hy ▸ t.isLt, e⟩

theorem rowsBelow_zero (buf : Memref sig .tc .vmem S1024x768 .f32) : rowsBelow buf 0 = ∅ := by
  refine Finset.eq_empty_of_forall_notMem fun i hi => ?_
  obtain ⟨y, hy, -⟩ := (mem_rowsBelow ..).1 hi
  omega

/-- The 64 rows a slice of the buffer names. -/
theorem sub_set (buf : Memref sig .tc .vmem S1024x768 .f32) {k : ℕ} {o2 : Fin 2 → ℕ} (h2 : o2 = ![64 * k, 0])
    (inb : ∀ a, o2 a + S64x768.size a ≤ S1024x768.size a) (hs) :
    (buf.slice (Rect.unit (s := S1024x768) o2 S64x768.size inb) hs).view.set = rowsSet buf k := by
  subst h2
  refine (View.set_slice _ _).trans ?_
  unfold rowsSet
  congr 1
  ext y
  rw [Rect.mem_set_unit]
  simp only [Finset.mem_filter, Finset.mem_univ, true_and]
  have h1 : (y 1).val < 768 := (y 1).isLt
  constructor
  · intro h
    have := h 0
    simp [S64x768] at this
    omega
  · intro h a
    match a with
    | ⟨0, _⟩ => simp [S64x768]; omega
    | ⟨1, _⟩ => simp [S64x768]; omega

/-- What a transfer of 64 rows of the operand writes on the buffer's 64 rows is the block's rows there. -/
theorem sub_write (x : Memref sig .tc .hbm S8x4x2048x768 .f32) (fx : x.view.ty.Contents (Elt F))
    (buf : Memref sig .tc .vmem S1024x768 .f32) (fd f0 : buf.view.ty.Contents (Elt F)) {b : Fin 8} {j : Fin 2} {k : ℕ}
    {o2 : Fin 2 → ℕ} (h2 : o2 = ![64 * k, 0]) {o4 : Fin 4 → ℕ} (h4 : o4 = ![b.val, 3, 1024 * j.val + 64 * k, 0])
    (inb : ∀ a, o2 a + S64x768.size a ≤ S1024x768.size a) (hs)
    (inb4 : ∀ a, o4 a + S1x1x64x768.size a ≤ S8x4x2048x768.size a) (hs4) (hsq) (i : buf.view.ty.Idx) (hi : i ∈ rowsSet buf k) :
    (buf.slice (Rect.unit (s := S1024x768) o2 S64x768.size inb) hs).view.write (Elt F) fd
        (((x.slice (Rect.unit (s := S8x4x2048x768) o4 S1x1x64x768.size inb4) hs4).squeeze S64x768 hsq).view.read (Elt F) fx) Finset.univ i
      = buf.view.write (Elt F) f0 (blk x fx b j) Finset.univ i := by
  rw [← sub_set buf h2 inb hs] at hi
  obtain ⟨y, -, rfl⟩ := Finset.mem_map.1 hi
  subst h2 h4
  rw [View.write_emb_of_mem _ _ (Finset.mem_univ _)]
  refine Eq.trans ?_ (View.write_emb_of_mem (v := buf.view) _ _ (Finset.mem_univ _)).symm
  refine congrArg (cast _) ?_
  unfold blk
  refine congrArg (fun z => cast _ (fx (x.view.emb z))) ?_
  have hre : (Shape.reshapeEquiv hsq.numel_eq : S64x768.Idx → S1x1x64x768.Idx) y
      = ix4 (⟨0, Nat.one_pos⟩ : Fin 1) (⟨0, Nat.one_pos⟩ : Fin 1) (y 0 : Fin 64) (y 1 : Fin 768) :=
    (congrArg _ (eq_ix2 (n0 := 64) (n1 := 768) y)).trans (reshapeEquiv_ix2_11ab (a := 64) (b := 768) _ _ _)
  refine (congrArg (Rect.unit (s := S8x4x2048x768) ![b.val, 3, 1024 * j.val + 64 * k, 0] S1x1x64x768.size inb4).emb hre).trans ?_
  funext a
  refine Fin.ext ((ValueKit.rect_emb_unit_val _ _ _ _ _).trans ?_)
  match a with
  | ⟨0, _⟩ => rfl
  | ⟨1, _⟩ => rfl
  | ⟨2, _⟩ =>
    have := ValueKit.rect_emb_unit_val (s := S1024x768) ![64 * k, 0] S64x768.size inb y 0
    refine Eq.trans ?_ (congrArg (1024 * j.val + ·) this).symm
    exact Nat.add_assoc _ _ _
  | ⟨3, _⟩ =>
    have := ValueKit.rect_emb_unit_val (s := S1024x768) ![64 * k, 0] S64x768.size inb y 1
    exact this.symm

/-- What the transfer of a whole block writes is the block. -/
theorem full_write (x : Memref sig .tc .hbm S8x4x2048x768 .f32) (fx : x.view.ty.Contents (Elt F)) {b : Fin 8} {j : Fin 2}
    {o4 : Fin 4 → ℕ} (h4 : o4 = ![b.val, 3, 1024 * j.val, 0])
    (inb4 : ∀ a, o4 a + S1x1x1024x768.size a ≤ S8x4x2048x768.size a) (hs4) (hsq) :
    ((x.slice (Rect.unit (s := S8x4x2048x768) o4 S1x1x1024x768.size inb4) hs4).squeeze S1024x768 hsq).view.read (Elt F) fx = blk x fx b j := by
  subst h4
  funext y
  unfold blk
  refine congrArg (fun z => cast _ (fx (x.view.emb z))) ?_
  have hre : (Shape.reshapeEquiv hsq.numel_eq : S1024x768.Idx → S1x1x1024x768.Idx) y
      = ix4 (⟨0, Nat.one_pos⟩ : Fin 1) (⟨0, Nat.one_pos⟩ : Fin 1) (y 0 : Fin 1024) (y 1 : Fin 768) :=
    (congrArg _ (eq_ix2 (n0 := 1024) (n1 := 768) y)).trans (reshapeEquiv_ix2_11ab (a := 1024) (b := 768) _ _ _)
  refine (congrArg (Rect.unit (s := S8x4x2048x768) ![b.val, 3, 1024 * j.val, 0] S1x1x1024x768.size inb4).emb hre).trans ?_
  funext a
  refine Fin.ext ((ValueKit.rect_emb_unit_val _ _ _ _ _).trans ?_)
  match a with
  | ⟨0, _⟩ => rfl
  | ⟨1, _⟩ => rfl
  | ⟨2, _⟩ => rfl
  | ⟨3, _⟩ => exact Nat.zero_add _

/-- The credit of a transfer of 64 rows into the buffer. -/
def subN (buf : Memref sig .tc .vmem S1024x768 .f32) : ℕ :=
  (buf.slice (Rect.unit (s := S1024x768) ![0, 0] S64x768.size inb_S1024x768_S64x768_0_0) (fun _ => rfl)).view.dmaCredit

theorem subN_pos (buf : Memref sig .tc .vmem S1024x768 .f32) : 0 < subN buf :=
  View.dmaCredit_pos _ (by decide)

section Slot

variable (d : Dev nD) (x : Memref sig .tc .hbm S8x4x2048x768 .f32) (fx : x.view.ty.Contents (Elt F))
variable (buf : Memref sig .tc .vmem S1024x768 .f32) (sem : DmaSems sig S_) (len : ℕ) (b : Fin 8) (j : Fin 2)

/-- The rows of block `j` that count, of `len` rows in all. -/
abbrev rowsOf (len : ℕ) (j : Fin 2) : ℕ := len - 1024 * j.val

/-- How many transfers of 64 rows it takes to bring them. -/
def subs (len : ℕ) (j : Fin 2) : ℕ := min 16 ((rowsOf len j + 63) / 64)

/-- What a transfer of 64 rows delivers. -/
def subD (f0 : buf.view.ty.Contents (Elt F)) (t : Fin (subs len j)) : sProp 𝕄 :=
  buf.view.loc d.tc ↦[rowsSet buf t.val]{fullShare} (buf.view.write (Elt F) f0 (blk x fx b j) Finset.univ)

/-- What the transfer of a whole block delivers. -/
def fullD (f0 : buf.view.ty.Contents (Elt F)) (_ : Fin 1) : sProp 𝕄 :=
  buf.view.loc d.tc ↦{fullShare} (buf.view.write (Elt F) f0 (blk x fx b j) Finset.univ)

/-- The buffer at rest, its semaphore at zero. -/
def Idle : sProp 𝕄 :=
  iprop((∃ f, buf.view.loc d.tc ↦{fullShare} f) ∗ semVal (d.tc, .dma sem.sem) 0)

/-- The buffer after the first `k` of the transfers of 64 rows were looked at and started where needed, and the first `w` waited for. -/
def Sub (k w : ℕ) : sProp 𝕄 :=
  iprop(∃ f0, (buf.view.loc d.tc ↦[Finset.univ \ rowsBelow buf (min k (subs len j))]{fullShare} f0)
    ∗ MixedBatch EC d.tc (.dma sem.sem) none (fun _ : Fin (subs len j) => subN buf) (subD d x fx buf len b j f0)
        (min k (subs len j)) (min w (subs len j) * subN buf))

/-- The buffer while the transfer of a whole block is in flight. -/
def Full : sProp 𝕄 :=
  iprop(∃ f0, MixedBatch EC d.tc (.dma sem.sem) none (fun _ : Fin 1 => buf.view.dmaCredit) (fullD d x fx buf b j f0) 1 0)

/-- The buffer holding the rows that count, its semaphore at zero. -/
def Ready : sProp 𝕄 :=
  iprop((∃ f, (buf.view.loc d.tc ↦{fullShare} f) ∗ ⌜∀ y : S1024x768.Idx, (y 0).val < rowsOf len j → buf.view.read (Elt F) f y = blk x fx b j y⌝)
    ∗ semVal (d.tc, .dma sem.sem) 0)

instance (f0) (t) : Storable (upEmb : UEmb _ 𝕄) (subD d x fx buf len b j f0 t) := by unfold subD; infer_instance
instance (f0) (t) : Storable (upEmb : UEmb _ 𝕄) (fullD d x fx buf b j f0 t) := by unfold fullD; infer_instance

theorem Ready.idle : Ready d x fx buf sem len b j ⊢ Idle d buf sem := by
  unfold Ready Idle
  iintro ⟨⟨%f, Hf, -⟩, Hs⟩
  isplitl [Hf]; · iexists f; iexact Hf
  iexact Hs

/-- Before the first transfer of 64 rows: nothing of the buffer is lent. -/
theorem Idle.sub : Idle d buf sem ⊢ |={Set.univ}=> Sub d x fx buf sem len b j 0 0 := by
  unfold Idle Sub
  iintro ⟨⟨%f, Hf⟩, Hs⟩
  imod (mixedBatch_alloc' EC d.tc (none : HIx 1) (fun _ : Fin (subs len j) => subN buf) (subD d x fx buf len b j f) (E := Set.univ)) $$ Hs with HB
  imodintro
  iexists f
  rw [Nat.zero_min, rowsBelow_zero, Finset.sdiff_empty, Nat.zero_mul]
  isplitl [Hf]; · iexact Hf
  iexact HB

/-- After the last wait: the rows that count are in the buffer. -/
theorem Sub.ready (hlen : rowsOf len j < 1024) : Sub d x fx buf sem len b j 16 16 ⊢ |={Set.univ}=> Ready d x fx buf sem len b j := by
  have hn : subs len j = (rowsOf len j + 63) / 64 := by unfold subs; omega
  have h16 : min 16 (subs len j) = subs len j := by unfold subs; omega
  unfold Sub Ready
  rw [h16, ← sumTo_const (n := subs len j) (subN buf) le_rfl]
  iintro ⟨%f0, Hf, HB⟩
  imod (mixedBatch_collect' EC d.tc (fun _ => subN_pos buf)) $$ HB with ⟨HD, Hs⟩
  imodintro
  isplitr [Hs]
  · iexists (rowsBelow buf (subs len j)).piecewise (buf.view.write (Elt F) f0 (blk x fx b j) Finset.univ) f0
    isplitl
    · iapply (pointsTo_join_subset (Finset.subset_univ _))
      isplitl [HD]
      · rw [rowsBelow_eq_biUnion, pointsTo_biUnion _ _ (fun t _ t' _ h => rowsSet_disjoint buf (fun e => h (Fin.ext e)))]
        iexact HD
      · iexact Hf
    · ipureintro
      intro y hy
      rw [View.read_apply, Finset.piecewise_eq_of_mem _ _ _ ((mem_rowsBelow ..).2 ⟨y, by omega, rfl⟩), ← View.read_apply, View.read_write_univ]
  · iexact Hs

end Slot

end Cert.Proof

end
-- ==== Proof.TcState.lean ====
/-
  What the TensorCore body holds between two of its statements, and one lemma for each kind of statement it is made of.
-/
module

public import proofs.«01_k».proof.Proof.TcSlot

@[expose] public section

noncomputable section

namespace Cert.Proof

open Cert.KernelIdeal Cert.KernelIdeal.Gen
open Idealize.ShloMosaic Idealize.ShloMosaic.Transfers
open Idealize.ShloMosaic.SparseCore.Cfg (HIx)
open Idealize.SL Idealize.SL.RA Idealize.SL.BI Idealize.SL.BI.Laws Idealize.SL.ProofMode
open Idealize.SL.BI.BIBase
open Idealize.SL.Sem
open Idealize.ShloMosaic.ValueIdx

variable {F : FTy → Type} [FloatOps F]

local notation "𝕄" => MT nD τ sig (HIx 1) (Elt F) ℕ UU ℕ

/-- The operands of the TensorCore body. -/
structure Env where
  a1 : Memref sig .tc .smem S8 .i32
  h1 : a1.IsWhole
  a2 : Memref sig .tc .vmem S8x2x1x1024 .f32
  h2 : a2.IsWhole
  a3 : Memref sig .tc .hbm S8x4x2048x768 .f32
  h3 : a3.IsWhole
  a4 : Memref sig .tc .vmem S8x768 .f32
  h4 : a4.IsWhole
  a5 : Memref sig .tc .vmem S1024x768 .f32
  h5 : a5.IsWhole
  a6 : Memref sig .tc .vmem S1024x768 .f32
  h6 : a6.IsWhole
  a7 : Memref sig .tc .vmem S1024x768 .f32
  h7 : a7.IsWhole
  a8 : Memref sig .tc .vmem S1024x768 .f32
  h8 : a8.IsWhole
  a9 : Memref sig .tc .vmem S1024x768 .f32
  h9 : a9.IsWhole
  a10 : DmaSems sig S_
  a11 : DmaSems sig S_
  a12 : DmaSems sig S_
  a13 : DmaSems sig S_
  a14 : DmaSems sig S_

/-- Buffer `m` of the five. -/
def Env.buf (E : Env) : Fin 5 → Memref sig .tc .vmem S1024x768 .f32
  | 0 => E.a5 | 1 => E.a6 | 2 => E.a7 | 3 => E.a8 | 4 => E.a9

/-- The semaphore of buffer `m`. -/
def Env.sem (E : Env) : Fin 5 → DmaSems sig S_
  | 0 => E.a10 | 1 => E.a11 | 2 => E.a12 | 3 => E.a13 | 4 => E.a14

/-- The contents the body reads, the waits it may record, and the bound on the lengths. -/
structure Data (F : FTy → Type) (E : Env) where
  fl : E.a1.view.ty.Contents (Elt F)
  ql : PosShare TreeShare
  fw : E.a2.view.ty.Contents (Elt F)
  fx : E.a3.view.ty.Contents (Elt F)
  R : Set (SemLoc sig × HIx 1)
  hR : ∀ s, (s, none) ∈ R
  hlen : ∀ b : Fin 8, BitVec.toNat (w := 32) (E.a1.view.read (Elt F) fl (ix1 b)) < 2048

/-- The length of batch `b`, as a word. -/
def Data.lw {E : Env} (V : Data F E) (b : Fin 8) : BitVec 32 := E.a1.view.read (Elt F) V.fl (ix1 b)
theorem Data.lw_eq {E : Env} (V : Data F E) (b : Fin 8) : V.lw b = E.a1.view.read (Elt F) V.fl (ix1 b) := rfl
/-- The lengths are below 2048. -/
theorem Data.lw_lt {E : Env} (V : Data F E) (b : Fin 8) : (V.lw b).toNat < 2048 := V.hlen b
attribute [irreducible] Data.lw
/-- The length of batch `b`. -/
def Data.len {E : Env} (V : Data F E) (b : Fin 8) : ℕ := (V.lw b).toNat

/-- How far one buffer has come: at rest; after the transfer of a whole block was started if one was due; after `k` of
    the transfers of 64 rows; all started; after the wait for a whole block; after `w` waits for 64 rows; filled. -/
inductive SlotSt where
  | idle | full (b : Fin 8) (j : Fin 2) | sub (b : Fin 8) (j : Fin 2) (k : ℕ) | fly (b : Fin 8) (j : Fin 2)
  | half (b : Fin 8) (j : Fin 2) | wsub (b : Fin 8) (j : Fin 2) (w : ℕ) | ready (b : Fin 8) (j : Fin 2)

/-- The five buffers' stages. -/
structure T5 where
  s0 : SlotSt
  s1 : SlotSt
  s2 : SlotSt
  s3 : SlotSt
  s4 : SlotSt

def T5.get (σ : T5) : Fin 5 → SlotSt
  | 0 => σ.s0 | 1 => σ.s1 | 2 => σ.s2 | 3 => σ.s3 | 4 => σ.s4
def T5.set (σ : T5) (m : Fin 5) (s : SlotSt) : T5 :=
  ⟨match m with | 0 => s | _ => σ.s0, match m with | 1 => s | _ => σ.s1, match m with | 2 => s | _ => σ.s2,
    match m with | 3 => s | _ => σ.s3, match m with | 4 => s | _ => σ.s4⟩

theorem T5.get_set_self (σ : T5) (m : Fin 5) (s : SlotSt) : (σ.set m s).get m = s := by
  match m with | 0 => rfl | 1 => rfl | 2 => rfl | 3 => rfl | 4 => rfl
theorem T5.get_set_ne (σ : T5) {m m' : Fin 5} (h : m' ≠ m) (s : SlotSt) : (σ.set m s).get m' = σ.get m' := by
  fin_cases m <;> fin_cases m' <;> first | rfl | exact absurd rfl h
theorem T5.set_set (σ : T5) (m : Fin 5) (s s' : SlotSt) : (σ.set m s).set m s' = σ.set m s' := by
  fin_cases m <;> rfl
theorem T5.set_get (σ : T5) (m : Fin 5) : σ.set m (σ.get m) = σ := by
  fin_cases m <;> rfl

section State

variable (d : Dev nD) (E : Env) (V : Data F E)

/-- The operand is asked for a whole block. -/
abbrev isFull (b : Fin 8) (j : Fin 2) : Prop := 1024 * (j.val + 1) ≤ V.len b
/-- The operand is asked for some rows of a block. -/
abbrev isPart (b : Fin 8) (j : Fin 2) : Prop := 1024 * j.val < V.len b

/-- What a buffer in flight or filled holds, by whether a block's rows count all, in part or not at all. -/
def byLen (b : Fin 8) (j : Fin 2) (P P' P'' : sProp 𝕄) : sProp 𝕄 :=
  open Classical in if isFull E V b j then P else if isPart E V b j then P' else P''

/-- What buffer `m` and its semaphore are at a stage. -/
def Slot (m : Fin 5) : SlotSt → sProp 𝕄
  | .idle => Idle d (E.buf m) (E.sem m)
  | .full b j => byLen E V b j (Full d E.a3 V.fx (E.buf m) (E.sem m) b j) (Idle d (E.buf m) (E.sem m)) (Idle d (E.buf m) (E.sem m))
  | .sub b j k => Sub d E.a3 V.fx (E.buf m) (E.sem m) (V.len b) b j k 0
  | .fly b j => byLen E V b j (Full d E.a3 V.fx (E.buf m) (E.sem m) b j) (Sub d E.a3 V.fx (E.buf m) (E.sem m) (V.len b) b j 16 0) (Idle d (E.buf m) (E.sem m))
  | .half b j => byLen E V b j (Ready d E.a3 V.fx (E.buf m) (E.sem m) (V.len b) b j) (Sub d E.a3 V.fx (E.buf m) (E.sem m) (V.len b) b j 16 0) (Idle d (E.buf m) (E.sem m))
  | .wsub b j w => Sub d E.a3 V.fx (E.buf m) (E.sem m) (V.len b) b j 16 w
  | .ready b j => Ready d E.a3 V.fx (E.buf m) (E.sem m) (V.len b) b j

def Slots (σ : T5) : sProp 𝕄 := bigSep Finset.univ fun m : Fin 5 => Slot d E V m (σ.get m)

/-- The operand `x`, at some share. -/
def XTok : sProp 𝕄 := iprop(∃ q, E.a3.view.loc d.tc ↦{q} V.fx)

/-- The waits recorded, all of them allowed, by a core that owes nothing. -/
def Owes : sProp 𝕄 := iprop(∃ W : Waits sig (HIx 1), ⌜∀ p ∈ W, p ∈ V.R⌝ ∗ owes d.tc 0 W)

/-- Everything but the buffers: the operands read, the result so far, the waits recorded. -/
def Base (a : (S8x768.Idx → Elt F .f32) → Prop) : sProp 𝕄 :=
  iprop(XTok d E V ∗ (E.a1.view.loc d.tc ↦{V.ql} V.fl) ∗ (E.a2.view.loc d.tc ↦{fullShare} V.fw)
    ∗ (∃ f, (E.a4.view.loc d.tc ↦{fullShare} f) ∗ ⌜a (E.a4.view.read (Elt F) f)⌝) ∗ Owes d E V)

/-- What the body holds between two statements: the buffers at the stages `σ`, the result so far one that `a` admits. -/
def St (σ : T5) (a : (S8x768.Idx → Elt F .f32) → Prop) : sProp 𝕄 :=
  iprop(Base d E V a ∗ Slots d E V σ)

/-- The program `p` from here on. -/
abbrev twp {α : Type} (p : Prog (TpuEff nD τ sig (Elt F) Λ₀ .tc) α) (Q : α → sProp 𝕄) : sProp 𝕄 :=
  wp frame (wpE (defs₀ (F := F)) 𝒱₀ d.tc none) Set.univ p Q

variable {d E V}

theorem Slots_take (σ : T5) (m : Fin 5) :
    Slots d E V σ ⊢ iprop(Slot d E V m (σ.get m) ∗ ∀ s, Slot d E V m s -∗ Slots d E V (σ.set m s)) := by
  unfold Slots
  rw [show (bigSep Finset.univ fun m : Fin 5 => Slot d E V m (σ.get m)) = iprop(Slot d E V m (σ.get m) ∗ bigSep (Finset.univ.erase m) fun m : Fin 5 => Slot d E V m (σ.get m))
    from BI.bigSep_erase (Φ := fun m : Fin 5 => Slot d E V m (σ.get m)) (Finset.mem_univ m)]
  iintro ⟨H, Hr⟩
  isplitl [H]; · iexact H
  iintro %s Hs
  rw [show (bigSep Finset.univ fun m' : Fin 5 => Slot d E V m' ((σ.set m s).get m')) = iprop(Slot d E V m ((σ.set m s).get m) ∗ bigSep (Finset.univ.erase m) fun m' : Fin 5 => Slot d E V m' ((σ.set m s).get m'))
    from BI.bigSep_erase (Φ := fun m' : Fin 5 => Slot d E V m' ((σ.set m s).get m')) (Finset.mem_univ m), T5.get_set_self]
  isplitl [Hs]; · iexact Hs
  rw [show (bigSep (Finset.univ.erase m) fun m' : Fin 5 => Slot d E V m' ((σ.set m s).get m')) = bigSep (Finset.univ.erase m) fun m' : Fin 5 => Slot d E V m' (σ.get m')
    from BI.bigSep_congr (fun m' hm' => by rw [T5.get_set_ne σ (Finset.ne_of_mem_erase hm')])]
  iexact Hr

variable {a : (S8x768.Idx → Elt F .f32) → Prop} {σ : T5}

/-- The buffer `m` changes its stage by itself. -/
theorem St_slot (m : Fin 5) {s s' : SlotSt} (hσ : σ.get m = s) (h : Slot d E V m s ⊢ |={Set.univ}=> Slot d E V m s') :
    St d E V σ a ⊢ |={Set.univ}=> St d E V (σ.set m s') a := by
  unfold St
  iintro ⟨HB, HS⟩
  ihave H := (Slots_take (d := d) (V := V) σ m) $$ HS
  icases H with ⟨H, Hk⟩
  rw [hσ]
  imod h $$ H with H
  imodintro
  isplitl [HB]; · iexact HB
  iapply Hk; iexact H

theorem St_twp {α : Type} {σ' : T5} {p : Prog (TpuEff nD τ sig (Elt F) Λ₀ .tc) α} {Q : α → sProp 𝕄}
    (h : St d E V σ a ⊢ |={Set.univ}=> St d E V σ' a) (hr : St d E V σ' a ⊢ twp d p Q) : St d E V σ a ⊢ twp d p Q := by
  exact h.trans ((fupd_mono hr).trans (fupd_wp _ _ _ _ _))

/-- A share of the operand, to lend to a transfer. -/
theorem XTok_lend : XTok d E V ⊢ iprop(XTok d E V ∗ ∃ q, E.a3.view.loc d.tc ↦{q} V.fx) := by
  unfold XTok
  iintro ⟨%q, H⟩
  ihave H := (pointsTo_share (PosShare.mem_left_op_right q)).1 $$ H
  icases H with ⟨H, H'⟩
  isplitl [H]
  · iexists _; iexact H
  · iexists _; iexact H'

/-- A statement that moves buffer `m` on, reading the operand and recording a wait. -/
theorem St_op {α : Type} {Q : α → sProp 𝕄} {p rest : Prog (TpuEff nD τ sig (Elt F) Λ₀ .tc) α} (m : Fin 5) {s s' : SlotSt} (hσ : σ.get m = s)
    (h : iprop((∃ q, E.a3.view.loc d.tc ↦{q} V.fx) ∗ Slot d E V m s ∗ Owes d E V)
      ⊢ iprop((iprop(Slot d E V m s' ∗ Owes d E V) -∗ twp d rest Q) -∗ twp d p Q))
    (hr : St d E V (σ.set m s') a ⊢ twp d rest Q) : St d E V σ a ⊢ twp d p Q := by
  unfold St Base
  iintro ⟨⟨HX, HL, HW, HO, Hw⟩, HS⟩
  ihave H := (Slots_take (d := d) (V := V) σ m) $$ HS
  icases H with ⟨H, Hk⟩
  rw [hσ]
  ihave HX := (XTok_lend (d := d) (V := V)) $$ HX
  icases HX with ⟨HX, Hx⟩
  iapply h $$ [Hx H Hw]
  · isplitl [Hx]; · iexact Hx
    isplitl [H]; · iexact H
    iexact Hw
  iintro ⟨H, Hw⟩
  iapply hr
  unfold St Base
  isplitr [H Hk]
  · isplitl [HX]; · iexact HX
    isplitl [HL]; · iexact HL
    isplitl [HW]; · iexact HW
    isplitl [HO]; · iexact HO
    iexact Hw
  · iapply Hk; iexact H

/-! ## The statements -/

section Ops

variable {α : Type} {Q : α → sProp (MT nD τ sig (HIx 1) (Elt F) ℕ UU ℕ)} {k : PUnit → Prog (TpuEff nD τ sig (Elt F) Λ₀ .tc) α}
variable (m : Fin 5) (b : Fin 8) (j : Fin 2)

theorem full_deliver {o4 : Fin 4 → ℕ} (h4 : o4 = ![b.val, 3, 1024 * j.val, 0])
    {inb4 : ∀ a, o4 a + S1x1x1024x768.size a ≤ S8x4x2048x768.size a} {hs4} {hsq} (f0 : (E.buf m).view.ty.Contents (Elt F)) (q : PosShare TreeShare) :
    iprop(((E.buf m).view.loc d.tc ↦{fullShare} ((E.buf m).view.write (Elt F) f0 (((E.a3.slice (Rect.unit (s := S8x4x2048x768) o4 S1x1x1024x768.size inb4) hs4).squeeze S1024x768 hsq).view.read (Elt F) V.fx) Finset.univ))
      ∗ (((E.a3.slice (Rect.unit (s := S8x4x2048x768) o4 S1x1x1024x768.size inb4) hs4).squeeze S1024x768 hsq).view.loc d.tc
          ↦[((E.a3.slice (Rect.unit (s := S8x4x2048x768) o4 S1x1x1024x768.size inb4) hs4).squeeze S1024x768 hsq).view.set]{q} V.fx))
      ⊢ fullD d E.a3 V.fx (E.buf m) b j f0 ⟨0, Nat.zero_lt_one⟩ := by
  unfold fullD
  rw [full_write E.a3 V.fx h4 inb4 hs4 hsq]
  iintro ⟨H, -⟩
  iexact H

theorem sub_deliver {k' : ℕ} {len : ℕ} (hk : k' < subs len j) {o2 : Fin 2 → ℕ} (h2 : o2 = ![64 * k', 0]) {o4 : Fin 4 → ℕ} (h4 : o4 = ![b.val, 3, 1024 * j.val + 64 * k', 0])
    {inb : ∀ a, o2 a + S64x768.size a ≤ S1024x768.size a} {hs}
    {inb4 : ∀ a, o4 a + S1x1x64x768.size a ≤ S8x4x2048x768.size a} {hs4} {hsq} (f0 : (E.buf m).view.ty.Contents (Elt F)) (q : PosShare TreeShare) :
    iprop((((E.buf m).slice (Rect.unit (s := S1024x768) o2 S64x768.size inb) hs).view.loc d.tc ↦[(rowsSet (E.buf m) k' : Finset (E.buf m).view.ty.Idx)]{fullShare}
        (((E.buf m).slice (Rect.unit (s := S1024x768) o2 S64x768.size inb) hs).view.write (Elt F) f0 (((E.a3.slice (Rect.unit (s := S8x4x2048x768) o4 S1x1x64x768.size inb4) hs4).squeeze S64x768 hsq).view.read (Elt F) V.fx) Finset.univ))
      ∗ (((E.a3.slice (Rect.unit (s := S8x4x2048x768) o4 S1x1x64x768.size inb4) hs4).squeeze S64x768 hsq).view.loc d.tc
          ↦[((E.a3.slice (Rect.unit (s := S8x4x2048x768) o4 S1x1x64x768.size inb4) hs4).squeeze S64x768 hsq).view.set]{q} V.fx))
      ⊢ subD d E.a3 V.fx (E.buf m) len b j f0 ⟨k', hk⟩ := by
  unfold subD
  iintro ⟨H, -⟩
  ihave H := (Entails.of_eq (pointsTo_congr (ℓ := (E.buf m).view.loc d.tc) (I := (rowsSet (E.buf m) k' : Finset (E.buf m).view.ty.Idx)) (q := fullShare)
    (f := ((E.buf m).slice (Rect.unit (s := S1024x768) o2 S64x768.size inb) hs).view.write (Elt F) f0 (((E.a3.slice (Rect.unit (s := S8x4x2048x768) o4 S1x1x64x768.size inb4) hs4).squeeze S64x768 hsq).view.read (Elt F) V.fx) Finset.univ)
    (g := (E.buf m).view.write (Elt F) f0 (blk E.a3 V.fx b j) Finset.univ)
    (fun i hi => sub_write E.a3 V.fx (E.buf m) f0 f0 h2 h4 inb hs inb4 hs4 hsq i hi))) $$ H
  iexact H

/-- The start of the transfer of a whole block. -/
theorem op_fullStart {o4 : Fin 4 → ℕ} (h4 : o4 = ![b.val, 3, 1024 * j.val, 0])
    {inb4 : ∀ a, o4 a + S1x1x1024x768.size a ≤ S8x4x2048x768.size a} {hs4} {hsq} {w1} {w2} {w3} :
    iprop((∃ q, E.a3.view.loc d.tc ↦{q} V.fx) ∗ Idle d (E.buf m) (E.sem m) ∗ Owes d E V)
      ⊢ iprop((iprop(Full d E.a3 V.fx (E.buf m) (E.sem m) b j ∗ Owes d E V) -∗ twp d (k ⟨⟩) Q)
        -∗ twp d (.op (.enqueueDma ((E.a3.slice (Rect.unit (s := S8x4x2048x768) o4 S1x1x1024x768.size inb4) hs4).squeeze S1024x768 hsq)
            (.here (E.buf m)) (.dma (E.sem m).sem) w1 w2 w3) k) Q) := by
  unfold Idle Full
  iintro ⟨⟨%q, Hx⟩, ⟨⟨%f0, Hf⟩, Hs⟩, Hw⟩ Hk
  ihave Hx := (pointsTo_split_subset (Finset.subset_univ ((E.a3.slice (Rect.unit (s := S8x4x2048x768) o4 S1x1x1024x768.size inb4) hs4).squeeze S1024x768 hsq).view.set)).1 $$ Hx
  icases Hx with ⟨Hx, -⟩
  imod (mixedBatch_alloc' EC d.tc (none : HIx 1) (fun _ : Fin 1 => (E.buf m).view.dmaCredit) (fullD d E.a3 V.fx (E.buf m) b j f0) (E := Set.univ)) $$ Hs with HB
  iapply (wp_dmaMixedBatch EC 𝒱₀ d.tc none (src := (E.a3.slice (Rect.unit (s := S8x4x2048x768) o4 S1x1x1024x768.size inb4) hs4).squeeze S1024x768 hsq)
    (dst := E.buf m) (via := .same) (Sd := Finset.univ) (fd := f0) (fs := V.fx) (q := q) (D := fullD d E.a3 V.fx (E.buf m) b j f0) (j := 0) (u := 0) none
    (fun _ : Fin 1 => (E.buf m).view.dmaCredit) (Finset.subset_univ _) Nat.zero_lt_one (View.amount_dma _ _) (Nat.zero_le _)
    (full_deliver m b j h4 f0 q)) $$ [Hx Hf HB]
  · isplitl [Hx]; · iexact Hx
    isplitl [Hf]; · iexact Hf
    iexact HB
  iintro HB
  iapply Hk
  isplitr [Hw]
  · iexists f0; iexact HB
  · iexact Hw

/-- The wait for the transfer of a whole block. -/
theorem op_fullWait {src : Memref sig .tc .hbm S1024x768 .f32} {w1} {w2} :
    iprop((∃ q, E.a3.view.loc d.tc ↦{q} V.fx) ∗ Full d E.a3 V.fx (E.buf m) (E.sem m) b j ∗ Owes d E V)
      ⊢ iprop((iprop(Ready d E.a3 V.fx (E.buf m) (E.sem m) (V.len b) b j ∗ Owes d E V) -∗ twp d (k ⟨⟩) Q)
        -∗ twp d (.op (.waitDma2 (E.sem m).sem src (E.buf m) w1 w2) k) Q) := by
  unfold Full Owes
  iintro ⟨-, ⟨%f0, HB⟩, ⟨%W, %hW, Hw⟩⟩ Hk
  iapply (wp_waitMixedBatch EC 𝒱₀ d.tc none (none : HIx 1) (J := (E.buf m).view.dmaCredit) rfl (A := fun _ : Fin 1 => (E.buf m).view.dmaCredit) (j := 1) (u := 0)
    (by rw [sumTo_const _ le_rfl]; omega)) $$ [HB Hw]
  · isplitl [HB]; · iexact HB
    iexact Hw
  iintro ⟨HB, Hw⟩
  rw [show 0 + (E.buf m).view.dmaCredit = sumTo (fun _ : Fin 1 => (E.buf m).view.dmaCredit) 1 by rw [sumTo_const _ le_rfl]; omega]
  imod (mixedBatch_collect' EC d.tc (fun _ => View.dmaCredit_pos (E.buf m).view (by decide))) $$ HB with ⟨HD, Hs⟩
  iapply Hk
  isplitr [Hw]
  · unfold Ready
    isplitr [Hs]
    · iexists ((E.buf m).view.write (Elt F) f0 (blk E.a3 V.fx b j) Finset.univ)
      isplitl
      · ihave HD := (show bigSep Finset.univ (fullD d E.a3 V.fx (E.buf m) b j f0) ⊢ iprop(fullD d E.a3 V.fx (E.buf m) b j f0 0 ∗ bigSep (Finset.univ.erase 0) (fullD d E.a3 V.fx (E.buf m) b j f0))
          from Entails.of_eq (BI.bigSep_erase (Finset.mem_univ _))) $$ HD
        icases HD with ⟨HD, -⟩
        unfold fullD
        iexact HD
      · ipureintro
        intro y _
        rw [View.read_write_univ]
    · iexact Hs
  · iexists (insert (SemLoc.dma (E.sem m).sem, none) W)
    isplitr
    · ipureintro
      intro p hp
      rcases Finset.mem_insert.1 hp with rfl | hp
      · exact V.hR _
      · exact hW p hp
    · iexact Hw

/-- The start of a transfer of 64 rows. -/
theorem op_subStart {k' : ℕ} (hk : 64 * k' < rowsOf (V.len b) j) (hk16 : k' < 16) {o2 : Fin 2 → ℕ} (h2 : o2 = ![64 * k', 0])
    {o4 : Fin 4 → ℕ} (h4 : o4 = ![b.val, 3, 1024 * j.val + 64 * k', 0])
    {inb : ∀ a, o2 a + S64x768.size a ≤ S1024x768.size a} {hs}
    {inb4 : ∀ a, o4 a + S1x1x64x768.size a ≤ S8x4x2048x768.size a} {hs4} {hsq} {w1} {w2} {w3} :
    iprop((∃ q, E.a3.view.loc d.tc ↦{q} V.fx) ∗ Sub d E.a3 V.fx (E.buf m) (E.sem m) (V.len b) b j k' 0 ∗ Owes d E V)
      ⊢ iprop((iprop(Sub d E.a3 V.fx (E.buf m) (E.sem m) (V.len b) b j (k' + 1) 0 ∗ Owes d E V) -∗ twp d (k ⟨⟩) Q)
        -∗ twp d (.op (.enqueueDma ((E.a3.slice (Rect.unit (s := S8x4x2048x768) o4 S1x1x64x768.size inb4) hs4).squeeze S64x768 hsq)
            (.here ((E.buf m).slice (Rect.unit (s := S1024x768) o2 S64x768.size inb) hs)) (.dma (E.sem m).sem) w1 w2 w3) k) Q) := by
  have hlt : k' < subs (V.len b) j := by unfold subs; omega
  have e1 : min k' (subs (V.len b) j) = k' := by omega
  have e2 : min (k' + 1) (subs (V.len b) j) = k' + 1 := by omega
  unfold Sub
  rw [e1, e2, Nat.zero_min, Nat.zero_mul]
  iintro ⟨⟨%q, Hx⟩, ⟨%f0, Hf, HB⟩, Hw⟩ Hk
  ihave Hx := (pointsTo_split_subset (Finset.subset_univ ((E.a3.slice (Rect.unit (s := S8x4x2048x768) o4 S1x1x64x768.size inb4) hs4).squeeze S64x768 hsq).view.set)).1 $$ Hx
  icases Hx with ⟨Hx, -⟩
  ihave Hf := (pointsTo_split_subset (rowsSet_subset (E.buf m) k')).1 $$ Hf
  icases Hf with ⟨Hf, Hr⟩
  rw [← rowsBelow_succ]
  iapply (wp_dmaMixedBatch EC 𝒱₀ d.tc none (src := (E.a3.slice (Rect.unit (s := S8x4x2048x768) o4 S1x1x64x768.size inb4) hs4).squeeze S64x768 hsq)
    (dst := (E.buf m).slice (Rect.unit (s := S1024x768) o2 S64x768.size inb) hs) (via := .same) (Sd := (rowsSet (E.buf m) k' : Finset (E.buf m).view.ty.Idx)) (fd := f0) (fs := V.fx) (q := q)
    (D := subD d E.a3 V.fx (E.buf m) (V.len b) b j f0) (j := k') (u := 0) none (fun _ : Fin (subs (V.len b) j) => subN (E.buf m))
    (Finset.subset_of_eq (sub_set (E.buf m) h2 inb hs)) hlt (View.amount_dma _ _) (Nat.zero_le _)
    (sub_deliver m b j hlt h2 h4 f0 q)) $$ [Hx Hf HB]
  · isplitl [Hx]; · iexact Hx
    isplitl [Hf]; · iexact Hf
    iexact HB
  iintro HB
  iapply Hk
  isplitr [Hw]
  · iexists f0
    isplitl [Hr]; · iexact Hr
    iexact HB
  · iexact Hw

/-- A transfer of 64 rows that is not due changes nothing. -/
theorem Sub_skip {len k' w : ℕ} (hk : ¬ 64 * k' < rowsOf len j) {x : Memref sig .tc .hbm S8x4x2048x768 .f32} {fx : x.view.ty.Contents (Elt F)}
    {buf : Memref sig .tc .vmem S1024x768 .f32} {sem : DmaSems sig S_} :
    Sub d x fx buf sem len b j k' w = Sub d x fx buf sem len b j (k' + 1) w := by
  have e : min k' (subs len j) = min (k' + 1) (subs len j) := by unfold subs; omega
  unfold Sub; rw [e]

/-- A wait for 64 rows that is not due changes nothing. -/
theorem Sub_skipWait {len k' w : ℕ} (hk : ¬ 64 * w < rowsOf len j) {x : Memref sig .tc .hbm S8x4x2048x768 .f32} {fx : x.view.ty.Contents (Elt F)}
    {buf : Memref sig .tc .vmem S1024x768 .f32} {sem : DmaSems sig S_} :
    Sub d x fx buf sem len b j k' w = Sub d x fx buf sem len b j k' (w + 1) := by
  have e : min w (subs len j) = min (w + 1) (subs len j) := by unfold subs; omega
  unfold Sub; rw [e]

/-- The wait for a transfer of 64 rows. -/
theorem op_subWait {w : ℕ} (hk : 64 * w < rowsOf (V.len b) j) (hk16 : w < 16) {src : Memref sig .tc .hbm S64x768 .f32} {o2 : Fin 2 → ℕ}
    {inb : ∀ a, o2 a + S64x768.size a ≤ S1024x768.size a} {hs} {w1} {w2} :
    iprop((∃ q, E.a3.view.loc d.tc ↦{q} V.fx) ∗ Sub d E.a3 V.fx (E.buf m) (E.sem m) (V.len b) b j 16 w ∗ Owes d E V)
      ⊢ iprop((iprop(Sub d E.a3 V.fx (E.buf m) (E.sem m) (V.len b) b j 16 (w + 1) ∗ Owes d E V) -∗ twp d (k ⟨⟩) Q)
        -∗ twp d (.op (.waitDma2 (E.sem m).sem src ((E.buf m).slice (Rect.unit (s := S1024x768) o2 S64x768.size inb) hs) w1 w2) k) Q) := by
  have hlt : w < subs (V.len b) j := by unfold subs; omega
  have e0 : min 16 (subs (V.len b) j) = subs (V.len b) j := by unfold subs; omega
  have e1 : min w (subs (V.len b) j) = w := by omega
  have e2 : min (w + 1) (subs (V.len b) j) = w + 1 := by omega
  unfold Sub Owes
  rw [e0, e1, e2]
  iintro ⟨-, ⟨%f0, Hf, HB⟩, ⟨%W, %hW, Hw⟩⟩ Hk
  iapply (wp_waitMixedBatch EC 𝒱₀ d.tc none (srcw := src) (dstw := (E.buf m).slice (Rect.unit (s := S1024x768) o2 S64x768.size inb) hs) (hsrc := w1) (hdst := w2) (none : HIx 1) (J := subN (E.buf m)) rfl (A := fun _ : Fin (subs (V.len b) j) => subN (E.buf m)) (j := subs (V.len b) j) (u := w * subN (E.buf m))
    (by rw [sumTo_const _ le_rfl, ← Nat.succ_mul]; exact Nat.mul_le_mul_right _ hlt)) $$ [HB Hw]
  · isplitl [HB]; · iexact HB
    iexact Hw
  iintro ⟨HB, Hw⟩
  rw [← Nat.succ_mul]
  iapply Hk
  isplitr [Hw]
  · iexists f0
    isplitl [Hf]; · iexact Hf
    iexact HB
  · iexists (insert (SemLoc.dma (E.sem m).sem, none) W)
    isplitr
    · ipureintro
      intro p hp
      rcases Finset.mem_insert.1 hp with rfl | hp
      · exact V.hR _
      · exact hW p hp
    · iexact Hw

end Ops

end State

end Cert.Proof

end
-- ==== Proof.TcWords.lean ====
/-
  The words the TensorCore body decides by, and what each of them says of a batch's length.
-/
module

public import proofs.«01_k».proof.Proof.Base

@[expose] public section

noncomputable section

namespace Cert.Proof

open Idealize.ShloMosaic

/-- A word divided by 1024, rounded down. -/
def fdivW (w : BitVec 32) : BitVec 32 :=
  Scalar.select
    (Scalar.andi
      (Scalar.cmpi .ne (Scalar.subi (Scalar.extui (Scalar.cmpi .sgt w 0#32) : BitVec 32) (Scalar.extui (Scalar.cmpi .slt w 0#32) : BitVec 32))
        (Scalar.subi (Scalar.extui (Scalar.cmpi .sgt 1024#32 0#32) : BitVec 32) (Scalar.extui (Scalar.cmpi .slt 1024#32 0#32) : BitVec 32)))
      (Scalar.cmpi .ne (Scalar.remsi w 1024#32) 0#32))
    (Scalar.subi (Scalar.divsi w 1024#32) 1#32) (Scalar.divsi w 1024#32)

/-- The blocks of 1024 rows a length takes. -/
def nbW (w : BitVec 32) : BitVec 32 := fdivW (Scalar.subi (Scalar.addi w 1024#32) 1#32)

/-- The blocks of 1024 rows a length fills. -/
def nbfW (w : BitVec 32) : BitVec 32 := fdivW w

/-- A truth value as a branch tests it. -/
def tst (v : BitVec 1) : BitVec 1 := Scalar.cmpi .ne (Scalar.extui v : BitVec 32) 0#32

/-- Block `j` is filled. -/
def fullFlag (w : BitVec 32) (j : Fin 2) : BitVec 1 := tst (Scalar.cmpi .sgt (nbfW w) (BitVec.ofNat 32 j.val))

/-- Block `j` is the one a length ends in. -/
def partFlag (w : BitVec 32) (j : Fin 2) : BitVec 1 :=
  tst (Scalar.andi (Scalar.cmpi .eq (nbfW w) (BitVec.ofNat 32 j.val)) (Scalar.cmpi .sgt (nbW w) (BitVec.ofNat 32 j.val)))

/-- Block `j` holds rows that count. -/
def accFlag (w : BitVec 32) (j : Fin 2) : BitVec 1 := tst (Scalar.cmpi .sgt (nbW w) (BitVec.ofNat 32 j.val))

/-- Rows from `64 k` on of block `j` count. -/
def subFlag (w : BitVec 32) (j : Fin 2) (k : ℕ) : BitVec 1 :=
  Scalar.cmpi .sgt (Scalar.subi w (BitVec.ofNat 32 (1024 * j.val))) (BitVec.ofNat 32 (64 * k))

theorem fullFlag_tab : ∀ (n : Fin 2048) (j : Fin 2), fullFlag (BitVec.ofNat 32 n.val) j = 1#1 ↔ 1024 * (j.val + 1) ≤ n.val := by decide +kernel
theorem partFlag_tab : ∀ (n : Fin 2048) (j : Fin 2), partFlag (BitVec.ofNat 32 n.val) j = 1#1 ↔ ¬ 1024 * (j.val + 1) ≤ n.val ∧ 1024 * j.val < n.val := by decide +kernel
theorem accFlag_tab : ∀ (n : Fin 2048) (j : Fin 2), accFlag (BitVec.ofNat 32 n.val) j = 1#1 ↔ 1024 * j.val < n.val := by decide +kernel
theorem subFlag_tab : ∀ (n : Fin 2048) (j : Fin 2) (k : Fin 16), tst (subFlag (BitVec.ofNat 32 n.val) j k.val) = 1#1 ↔ 64 * k.val < n.val - 1024 * j.val := by decide +kernel

theorem word_eq {w : BitVec 32} (h : w.toNat < 2048) : w = BitVec.ofNat 32 (⟨w.toNat, h⟩ : Fin 2048).val := by
  apply BitVec.eq_of_toNat_eq; rw [BitVec.toNat_ofNat]; exact (Nat.mod_eq_of_lt (by show w.toNat < 2 ^ 32; omega)).symm

theorem fullFlag_iff {w : BitVec 32} (h : w.toNat < 2048) (j : Fin 2) : fullFlag w j = 1#1 ↔ 1024 * (j.val + 1) ≤ w.toNat := by
  have := fullFlag_tab ⟨w.toNat, h⟩ j
  rwa [← word_eq h] at this
theorem partFlag_iff {w : BitVec 32} (h : w.toNat < 2048) (j : Fin 2) : partFlag w j = 1#1 ↔ ¬ 1024 * (j.val + 1) ≤ w.toNat ∧ 1024 * j.val < w.toNat := by
  have := partFlag_tab ⟨w.toNat, h⟩ j
  rwa [← word_eq h] at this
theorem accFlag_iff {w : BitVec 32} (h : w.toNat < 2048) (j : Fin 2) : accFlag w j = 1#1 ↔ 1024 * j.val < w.toNat := by
  have := accFlag_tab ⟨w.toNat, h⟩ j
  rwa [← word_eq h] at this
theorem subFlag_iff {w : BitVec 32} (h : w.toNat < 2048) (j : Fin 2) {k : ℕ} (hk : k < 16) : tst (subFlag w j k) = 1#1 ↔ 64 * k < w.toNat - 1024 * j.val := by
  have := subFlag_tab ⟨w.toNat, h⟩ j ⟨k, hk⟩
  rwa [← word_eq h] at this

end Cert.Proof

end
-- ==== Proof.TcSteps.lean ====
/-
  One lemma for each shape of statement the TensorCore body is made of: from what is held before it, the rest of the
  body at what is held after it.
-/
module

public import proofs.«01_k».proof.Proof.TcState
public import proofs.«01_k».proof.Proof.TcWords

@[expose] public section

noncomputable section

namespace Cert.Proof

open Cert.KernelIdeal Cert.KernelIdeal.Gen
open Idealize.ShloMosaic Idealize.ShloMosaic.Transfers
open Idealize.ShloMosaic.SparseCore.Cfg (HIx)
open Idealize.SL Idealize.SL.RA Idealize.SL.BI Idealize.SL.BI.Laws Idealize.SL.ProofMode
open Idealize.SL.BI.BIBase
open Idealize.SL.Sem
open Idealize.ShloMosaic.ValueIdx

variable {F : FTy → Type} [FloatOps F]

/-- An array as the result holds it. -/
abbrev Out (F : FTy → Type) : Type := S8x768.Idx → Elt F .f32

variable {d : Dev nD} {E : Env} {V : Data F E} {σ : T5} {a : Out F → Prop}
variable {Q : PUnit → sProp (MT nD τ sig (HIx 1) (Elt F) ℕ UU ℕ)}

/-! ## Sequencing -/

theorem step_bind {α β : Type} {p : Prog (TpuEff nD τ sig (Elt F) Λ₀ .tc) α} {k : α → Prog (TpuEff nD τ sig (Elt F) Λ₀ .tc) β}
    {Q : β → sProp (MT nD τ sig (HIx 1) (Elt F) ℕ UU ℕ)}
    (h : St d E V σ a ⊢ twp d p fun x => twp d (k x) Q) : St d E V σ a ⊢ twp d (p >>= k) Q :=
  h.trans (Entails.of_eq (wp_bind _ _ _ p k Q).symm)

theorem step_pure {α : Type} {x : α} {Q : α → sProp (MT nD τ sig (HIx 1) (Elt F) ℕ UU ℕ)} (h : St d E V σ a ⊢ Q x) :
    St d E V σ a ⊢ twp d (pure x) Q :=
  h.trans ((fupd_intro).trans (Entails.of_eq (wp_ret _ _ _ x Q).symm))

section Gen

variable {α : Type} {Q : α → sProp (MT nD τ sig (HIx 1) (Elt F) ℕ UU ℕ)}

/-- A branch whose two sides come to the same state. -/
theorem step_region {σ' : T5} {a' : Out F → Prop} {v : BitVec 1} {inst : Decidable (v = 1#1)} {T rest : Prog (TpuEff nD τ sig (Elt F) Λ₀ .tc) α}
    (hT : v = 1#1 → St d E V σ a ⊢ twp d T Q) (hE : ¬ v = 1#1 → St d E V σ a ⊢ |={Set.univ}=> St d E V σ' a')
    (hr : St d E V σ' a' ⊢ twp d rest Q) : St d E V σ a ⊢ twp d (@ite _ (v = 1#1) inst T rest) Q := by
  by_cases h : v = 1#1
  · rw [if_pos h]; exact hT h
  · rw [if_neg h]; exact (hE h).trans ((fupd_mono hr).trans (fupd_wp _ _ _ _ _))

/-! ## The lengths -/

/-- A length is read. -/
theorem step_lens (b : Fin 8) {o1 : Fin 1 → ℕ} (h1 : o1 = ![b.val]) {inb : ∀ x, o1 x + S1.size x ≤ S8.size x} {hn} {hw}
    {k : BitVec 32 → Prog (TpuEff nD τ sig (Elt F) Λ₀ .tc) α}
    (hr : St d E V σ a ⊢ twp d (k (V.lw b)) Q) :
    St d E V σ a ⊢ twp d (smemLoad E.a1 (Rect.unit (s := S8) o1 S1.size inb) hn hw >>= k) Q := by
  subst h1
  have hv : (E.a1.access (Rect.unit (s := S8) ![b.val] S1.size inb)).read (Elt F) V.fl (Shape.Idx.first (hn.symm ▸ Nat.one_pos)) = V.lw b := by
    rw [Data.lw_eq]
    refine congrArg (fun z => E.a1.view.read (Elt F) V.fl z) ?_
    funext x
    refine Fin.ext ((ValueKit.rect_emb_unit_val _ _ _ _ _).trans ?_)
    match x with
    | ⟨0, _⟩ => rfl
  unfold St Base
  iintro ⟨⟨HX, HL, Hr⟩, HS⟩
  iapply (wp_smemLoadElt 𝒱₀ d.tc none Set.univ (m := E.a1) (r := Rect.unit (s := S8) ![b.val] S1.size inb) (hw := View.loads_smem_one hw hn) (x := Shape.Idx.first (hn.symm ▸ Nat.one_pos)) (k := k) (Q := Q) (S := Finset.univ) (q := V.ql) (f := V.fl) (Finset.subset_univ _)) $$ HL
  iintro HL
  rw [hv]
  iapply hr
  unfold St Base
  isplitr [HS]
  · isplitl [HX]; · iexact HX
    isplitl [HL]; · iexact HL
    iexact Hr
  · iexact HS

/-! ## The transfers -/

theorem byLen_full {b : Fin 8} {j : Fin 2} {P P' P'' : sProp (MT nD τ sig (HIx 1) (Elt F) ℕ UU ℕ)} (h : isFull E V b j) : byLen E V b j P P' P'' = P := by
  unfold byLen; rw [if_pos h]
theorem byLen_part {b : Fin 8} {j : Fin 2} {P P' P'' : sProp (MT nD τ sig (HIx 1) (Elt F) ℕ UU ℕ)} (h : ¬ isFull E V b j) (h' : isPart E V b j) : byLen E V b j P P' P'' = P' := by
  unfold byLen; rw [if_neg h, if_pos h']
theorem byLen_none {b : Fin 8} {j : Fin 2} {P P' P'' : sProp (MT nD τ sig (HIx 1) (Elt F) ℕ UU ℕ)} (h : ¬ isFull E V b j) (h' : ¬ isPart E V b j) : byLen E V b j P P' P'' = P'' := by
  unfold byLen; rw [if_neg h, if_neg h']

variable (m : Fin 5) (b : Fin 8) (j : Fin 2)

/-- The start of the transfer of a whole block, if it is due. -/
theorem step_fullStart (hσ : σ.get m = .idle) {inst} {o4 : Fin 4 → ℕ} (h4 : o4 = ![b.val, 3, 1024 * j.val, 0])
    {inb4 : ∀ a, o4 a + S1x1x1024x768.size a ≤ S8x4x2048x768.size a} {hs4} {hsq} {w1} {w2} {w3} {rest : Prog (TpuEff nD τ sig (Elt F) Λ₀ .tc) α}
    (hr : St d E V (σ.set m (.full b j)) a ⊢ twp d rest Q) :
    St d E V σ a ⊢ twp d (@ite _ (fullFlag (V.lw b) j = 1#1) inst
      (Prog.lift (.enqueueDma ((E.a3.slice (Rect.unit (s := S8x4x2048x768) o4 S1x1x1024x768.size inb4) hs4).squeeze S1024x768 hsq)
            (.here (E.buf m)) (.dma (E.sem m).sem) w1 w2 w3) >>= fun _ => rest) rest) Q := by
  refine step_region (σ' := σ.set m (.full b j)) (a' := a) (fun h => ?_) (fun h => ?_) hr
  · have hf : isFull E V b j := (fullFlag_iff (V.lw_lt b) j).1 h
    refine St_op m (s := .idle) (s' := .full b j) hσ ?_ hr
    dsimp only [Slot]
    rw [byLen_full hf]
    exact op_fullStart (k := fun _ => rest) m b j h4
  · have hf : ¬ isFull E V b j := fun hf => h ((fullFlag_iff (V.lw_lt b) j).2 hf)
    refine St_slot m hσ ?_
    dsimp only [Slot]
    by_cases hp : isPart E V b j
    · rw [byLen_part hf hp]; exact fupd_intro
    · rw [byLen_none hf hp]; exact fupd_intro

/-- The wait for the transfer of a whole block, if it was due. -/
theorem step_fullWait (hσ : σ.get m = .fly b j) {inst} {src : Memref sig .tc .hbm S1024x768 .f32} {w1} {w2} {rest : Prog (TpuEff nD τ sig (Elt F) Λ₀ .tc) α}
    (hr : St d E V (σ.set m (.half b j)) a ⊢ twp d rest Q) :
    St d E V σ a ⊢ twp d (@ite _ (fullFlag (V.lw b) j = 1#1) inst
      (Prog.lift (.waitDma2 (E.sem m).sem src (E.buf m) w1 w2) >>= fun _ => rest) rest) Q := by
  refine step_region (σ' := σ.set m (.half b j)) (a' := a) (fun h => ?_) (fun h => ?_) hr
  · have hf : isFull E V b j := (fullFlag_iff (V.lw_lt b) j).1 h
    refine St_op m (s := .fly b j) (s' := .half b j) hσ ?_ hr
    dsimp only [Slot]
    rw [byLen_full hf, byLen_full hf]
    exact op_fullWait (k := fun _ => rest) m b j
  · have hf : ¬ isFull E V b j := fun hf => h ((fullFlag_iff (V.lw_lt b) j).2 hf)
    refine St_slot m hσ ?_
    dsimp only [Slot]
    by_cases hp : isPart E V b j
    · rw [byLen_part hf hp, byLen_part hf hp]; exact fupd_intro
    · rw [byLen_none hf hp, byLen_none hf hp]; exact fupd_intro

/-- The start of one transfer of 64 rows, if it is due. -/
theorem step_subStart {kk : ℕ} (hk : kk < 16) {inst} {o2 : Fin 2 → ℕ} (h2 : o2 = ![64 * kk, 0])
    {o4 : Fin 4 → ℕ} (h4 : o4 = ![b.val, 3, 1024 * j.val + 64 * kk, 0])
    {inb : ∀ a, o2 a + S64x768.size a ≤ S1024x768.size a} {hs}
    {inb4 : ∀ a, o4 a + S1x1x64x768.size a ≤ S8x4x2048x768.size a} {hs4} {hsq} {w1} {w2} {w3} {rest : Prog (TpuEff nD τ sig (Elt F) Λ₀ .tc) α}
    (hr : St d E V (σ.set m (.sub b j (kk + 1))) a ⊢ twp d rest Q) :
    St d E V (σ.set m (.sub b j kk)) a ⊢ twp d (@ite _ (tst (subFlag (V.lw b) j kk) = 1#1) inst
      (Prog.lift (.enqueueDma ((E.a3.slice (Rect.unit (s := S8x4x2048x768) o4 S1x1x64x768.size inb4) hs4).squeeze S64x768 hsq)
            (.here ((E.buf m).slice (Rect.unit (s := S1024x768) o2 S64x768.size inb) hs)) (.dma (E.sem m).sem) w1 w2 w3) >>= fun _ => rest) rest) Q := by
  have e := T5.set_set σ m (.sub b j kk) (.sub b j (kk + 1))
  rw [← e] at hr
  refine step_region (σ' := (σ.set m (.sub b j kk)).set m (.sub b j (kk + 1))) (a' := a) (fun h => ?_) (fun h => ?_) hr
  · have hf := (subFlag_iff (V.lw_lt b) j hk).1 h
    refine St_op m (s := .sub b j kk) (s' := .sub b j (kk + 1)) (T5.get_set_self _ _ _) ?_ hr
    dsimp only [Slot]
    exact op_subStart (k := fun _ => rest) m b j hf hk h2 h4
  · have hf := fun hf => h ((subFlag_iff (V.lw_lt b) j hk).2 hf)
    refine St_slot m (T5.get_set_self _ _ _) ?_
    dsimp only [Slot]
    exact (Entails.of_eq (Sub_skip b j hf)).trans fupd_intro

/-- The wait for one transfer of 64 rows, if it was due. -/
theorem step_subWait {kk : ℕ} (hk : kk < 16) {inst} {src : Memref sig .tc .hbm S64x768 .f32} {o2 : Fin 2 → ℕ}
    {inb : ∀ a, o2 a + S64x768.size a ≤ S1024x768.size a} {hs} {w1} {w2} {rest : Prog (TpuEff nD τ sig (Elt F) Λ₀ .tc) α}
    (hr : St d E V (σ.set m (.wsub b j (kk + 1))) a ⊢ twp d rest Q) :
    St d E V (σ.set m (.wsub b j kk)) a ⊢ twp d (@ite _ (tst (subFlag (V.lw b) j kk) = 1#1) inst
      (Prog.lift (.waitDma2 (E.sem m).sem src ((E.buf m).slice (Rect.unit (s := S1024x768) o2 S64x768.size inb) hs) w1 w2) >>= fun _ => rest) rest) Q := by
  have e := T5.set_set σ m (.wsub b j kk) (.wsub b j (kk + 1))
  rw [← e] at hr
  refine step_region (σ' := (σ.set m (.wsub b j kk)).set m (.wsub b j (kk + 1))) (a' := a) (fun h => ?_) (fun h => ?_) hr
  · have hf := (subFlag_iff (V.lw_lt b) j hk).1 h
    refine St_op m (s := .wsub b j kk) (s' := .wsub b j (kk + 1)) (T5.get_set_self _ _ _) ?_ hr
    dsimp only [Slot]
    exact op_subWait (k := fun _ => rest) m b j hf hk
  · have hf := fun hf => h ((subFlag_iff (V.lw_lt b) j hk).2 hf)
    refine St_slot m (T5.get_set_self _ _ _) ?_
    dsimp only [Slot]
    exact (Entails.of_eq (Sub_skipWait b j hf)).trans fupd_intro

/-- The starts of the transfers of 64 rows of the block a length ends in: `T` makes the sixteen starts. -/
theorem step_partStart (hσ : σ.get m = .full b j) {inst} {T rest : Prog (TpuEff nD τ sig (Elt F) Λ₀ .tc) α}
    (hT : (St d E V (σ.set m (.sub b j 16)) a ⊢ twp d rest Q) → St d E V (σ.set m (.sub b j 0)) a ⊢ twp d T Q)
    (hr : St d E V (σ.set m (.fly b j)) a ⊢ twp d rest Q) :
    St d E V σ a ⊢ twp d (@ite _ (partFlag (V.lw b) j = 1#1) inst T rest) Q := by
  refine step_region (σ' := σ.set m (.fly b j)) (a' := a) (fun h => ?_) (fun h => ?_) hr
  · obtain ⟨hf, hp⟩ := (partFlag_iff (V.lw_lt b) j).1 h
    have hf : ¬ isFull E V b j := hf
    have hp : isPart E V b j := hp
    refine St_twp (St_slot m (s' := .sub b j 0) hσ ?_) (hT (St_twp (σ' := σ.set m (.fly b j)) ?_ hr))
    · dsimp only [Slot]
      rw [byLen_part hf hp]
      exact Idle.sub d E.a3 V.fx (E.buf m) (E.sem m) (V.len b) b j
    · rw [← T5.set_set σ m (.sub b j 16) (.fly b j)]
      refine St_slot m (T5.get_set_self _ _ _) ?_
      dsimp only [Slot]
      rw [byLen_part hf hp]
      exact fupd_intro
  · have hn := fun h' => h ((partFlag_iff (V.lw_lt b) j).2 h')
    refine St_slot m hσ ?_
    dsimp only [Slot]
    by_cases hf : isFull E V b j
    · rw [byLen_full hf, byLen_full hf]; exact fupd_intro
    · have hp : ¬ isPart E V b j := fun hp => hn ⟨hf, hp⟩
      rw [byLen_none hf hp, byLen_none hf hp]; exact fupd_intro

/-- A buffer at rest holds the rows that count when none do. -/
theorem Idle.ready {b : Fin 8} {j : Fin 2} {m : Fin 5} (hp : ¬ isPart E V b j) :
    Idle d (E.buf m) (E.sem m) ⊢ Ready d E.a3 V.fx (E.buf m) (E.sem m) (V.len b) b j := by
  unfold Idle Ready
  iintro ⟨⟨%f, Hf⟩, Hs⟩
  isplitl [Hf]
  · iexists f
    isplitl; · iexact Hf
    ipureintro
    intro y hy
    have : ¬ 1024 * j.val < V.len b := hp
    unfold rowsOf at hy
    omega
  · iexact Hs

/-- The waits for the transfers of 64 rows of the block a length ends in: `T` makes the sixteen waits. -/
theorem step_partWait (hσ : σ.get m = .half b j) {inst} {T rest : Prog (TpuEff nD τ sig (Elt F) Λ₀ .tc) α}
    (hT : (St d E V (σ.set m (.wsub b j 16)) a ⊢ twp d rest Q) → St d E V (σ.set m (.wsub b j 0)) a ⊢ twp d T Q)
    (hr : St d E V (σ.set m (.ready b j)) a ⊢ twp d rest Q) :
    St d E V σ a ⊢ twp d (@ite _ (partFlag (V.lw b) j = 1#1) inst T rest) Q := by
  refine step_region (σ' := σ.set m (.ready b j)) (a' := a) (fun h => ?_) (fun h => ?_) hr
  · obtain ⟨hf, hp⟩ := (partFlag_iff (V.lw_lt b) j).1 h
    have hf : ¬ isFull E V b j := hf
    have hp : isPart E V b j := hp
    refine St_twp (St_slot m (s' := .wsub b j 0) hσ ?_) (hT (St_twp (σ' := σ.set m (.ready b j)) ?_ hr))
    · dsimp only [Slot]
      rw [byLen_part hf hp]
      exact fupd_intro
    · rw [← T5.set_set σ m (.wsub b j 16) (.ready b j)]
      refine St_slot m (T5.get_set_self _ _ _) ?_
      dsimp only [Slot]
      refine Sub.ready d E.a3 V.fx (E.buf m) (E.sem m) (V.len b) b j ?_
      unfold isFull at hf
      unfold rowsOf
      omega
  · have hn := fun h' => h ((partFlag_iff (V.lw_lt b) j).2 h')
    refine St_slot m hσ ?_
    dsimp only [Slot]
    by_cases hf : isFull E V b j
    · rw [byLen_full hf]; exact fupd_intro
    · have hp : ¬ isPart E V b j := fun hp => hn ⟨hf, hp⟩
      rw [byLen_none hf hp]; exact (Idle.ready hp).trans fupd_intro

end Gen

end Cert.Proof

end
-- ==== Proof.TcAcc.lean ====
/-
  The two statements of the TensorCore body that change the result: the zeros it starts from, and the product of one
  block's weights and rows that is added to one row of it.
-/
module

public import proofs.«01_k».proof.Proof.TcSteps
public import Idealize.ShloMosaic.Lib.VecWindow

@[expose] public section

noncomputable section

namespace Cert.Proof

open Cert.KernelIdeal Cert.KernelIdeal.Gen
open Idealize.ShloMosaic Idealize.ShloMosaic.Transfers
open Idealize.ShloMosaic.SparseCore.Cfg (HIx)
open Idealize.SL Idealize.SL.RA Idealize.SL.BI Idealize.SL.BI.Laws Idealize.SL.ProofMode
open Idealize.SL.BI.BIBase
open Idealize.SL.Sem
open Idealize.ShloMosaic.ValueIdx

variable {F : FTy → Type} [FloatOps F]

variable {d : Dev nD} {E : Env} {V : Data F E} {σ : T5} {a : Out F → Prop}

/-- Row `b` of the result. -/
def oRow (o : Out F) (b : Fin 8) : Vec F S1x768 .f32 := fun y => o (ix2 b (y 1))

/-- The weights of block `j` of batch `b`. -/
def wRow {E : Env} (V : Data F E) (b : Fin 8) (j : Fin 2) : Vec F S1x1x1x1024 .f32 :=
  fun y => E.a2.view.read (Elt F) V.fw (ix4 b j (0 : Fin 1) (y 3))

/-- A row of the result plus the product of a block's weights, at the positions below the length `w`, and its rows. -/
def accV (j : Fin 2) (w : BitVec 32) (v : Vec F S1x1x1x1024 .f32) (r : Vec F S1x768 .f32) (x : Vec F S1024x768 .f32) : FVec F S1x768 .f32 :=
  addf (shapeCast S1x768 r shapeCasts_S1x768_S1x768)
    (matmul dot_S1x1024_S1024x768_S1x768_1_0_0_1_n_n none
      (select (cmpi .slt (addi (broadcast S1x1024 (BitVec.ofNat 32 (1024 * j.val))) (iota .tc S1x1024 32 [1] iota_S1x1024_d1_w32)) (broadcast S1x1024 w))
        (shapeCast S1x1024 v shapeCasts_S1x1x1x1024_S1x1024) (broadcast S1x1024 (Scalar.ofBits .f32 0x00000000#32)))
      x (constant S1x768 .f32 0x00000000#32))

/-- The result with row `b` replaced. -/
def accOut (b : Fin 8) (o : Out F) (v : Vec F S1x768 .f32) : Out F := fun y => if (y 0).val = b.val then v (ix2 (0 : Fin 1) (y 1)) else o y

/-- What the treatment of block `j` of batch `b` makes of a result: nothing where no row of the block counts; else row
    `b` is added the product of the weights with some rows, which are the operand's where they count. -/
def accRel {E : Env} (V : Data F E) (b : Fin 8) (j : Fin 2) (o o' : Out F) : Prop :=
  open Classical in if isPart E V b j then
    ∃ X : Vec F S1024x768 .f32, (∀ y : S1024x768.Idx, (y 0).val < rowsOf (V.len b) j → X y = blk E.a3 V.fx b j y)
      ∧ o' = accOut b o (accV j (V.lw b) (wRow V b j) (oRow o b) X)
  else o' = o

/-- The results there can be after `n` blocks. -/
def accAfter {E : Env} (V : Data F E) : ℕ → Out F → Prop
  | 0 => fun o => o = broadcast S8x768 (Scalar.ofBits .f32 0x00000000#32)
  | n + 1 => fun o' => ∃ o, accAfter V n o ∧ accRel V (Fin.ofNat 8 (n / 2)) (Fin.ofNat 2 n) o o'

variable {α : Type} {Q : α → sProp (MT nD τ sig (HIx 1) (Elt F) ℕ UU ℕ)}

/-- The result is set to zeros. -/
theorem step_zero {inb : ∀ x, (![0, 0] : Fin 2 → ℕ) x + S8x768.size x ≤ S8x768.size x} {hl} {hx} {hm} {rest : Prog (TpuEff nD τ sig (Elt F) Λ₀ .tc) α}
    (hr : St d E V σ (accAfter V 0) ⊢ twp d rest Q) :
    St d E V σ a ⊢ twp d (Prog.lift (.load E.a4 (Rect.unit (s := S8x768) ![0, 0] S8x768.size inb).toLoadRect hl) >>= fun _ =>
      Prog.lift (.store E.a4 (Rect.unit (s := S8x768) ![0, 0] S8x768.size inb) (broadcast S8x768 (Scalar.ofBits .f32 0x00000000#32)) Finset.univ hx hm) >>= fun _ => rest) Q := by
  unfold St Base
  iintro ⟨⟨HX, HL, HW, ⟨%f, Hf, -⟩, Hw⟩, HS⟩
  iapply (wp_load 𝒱₀ d.tc none Set.univ (m := E.a4) (r := (Rect.unit (s := S8x768) ![0, 0] S8x768.size inb).toLoadRect) (hl := hl)
    (k := fun _ => Prog.lift (.store E.a4 (Rect.unit (s := S8x768) ![0, 0] S8x768.size inb) (broadcast S8x768 (Scalar.ofBits .f32 0x00000000#32)) Finset.univ hx hm) >>= fun _ => rest)
    (S := Finset.univ) (q := fullShare) (f := f) (Finset.subset_univ _)) $$ Hf
  iintro Hf
  iapply (wp_store 𝒱₀ d.tc none Set.univ (m := E.a4) (r := Rect.unit (s := S8x768) ![0, 0] S8x768.size inb) (hx := hx) (hm := hm)
    (k := fun _ => rest) (S := Finset.univ) (f := f) (Finset.subset_univ _)) $$ Hf
  iintro Hf
  iapply hr
  unfold St Base
  isplitr [HS]
  · isplitl [HX]; · iexact HX
    isplitl [HL]; · iexact HL
    isplitl [HW]; · iexact HW
    isplitl [Hf]
    · iexists _
      isplitl; · iexact Hf
      ipureintro
      refine (funext fun y => ?_)
      have hy : (Rect.unit (s := S8x768) ![0, 0] S8x768.size inb).emb y = y := by
        funext x
        refine Fin.ext ((ValueKit.rect_emb_unit_val _ _ _ _ _).trans ?_)
        match x with
        | ⟨0, _⟩ => exact Nat.zero_add _
        | ⟨1, _⟩ => exact Nat.zero_add _
      have := View.read_slice_write_emb (v := E.a4.view) (Val := Elt F) (Rect.unit (s := S8x768) ![0, 0] S8x768.size inb) f (broadcast S8x768 (Scalar.ofBits .f32 0x00000000#32)) (M := Finset.univ) (x := y) (Finset.mem_univ _)
      rw [hy] at this
      exact this
    · iexact Hw
  · iexact HS

/-- What a store to row `b` makes of the result. -/
theorem read_store_row (b : Fin 8) {oO : Fin 2 → ℕ} (hO : oO = ![b.val, 0]) {inbO : ∀ x, oO x + S1x768.size x ≤ S8x768.size x}
    (f : E.a4.view.ty.Contents (Elt F)) (v : Vec F S1x768 .f32) :
    E.a4.view.read (Elt F) ((E.a4.access (Rect.unit (s := S8x768) oO S1x768.size inbO)).write (Elt F) f v Finset.univ)
      = accOut b (E.a4.view.read (Elt F) f) v := by
  subst hO
  funext y
  unfold accOut
  by_cases h : (y 0).val = b.val
  · rw [if_pos h]
    have hy : (Rect.unit (s := S8x768) ![b.val, 0] S1x768.size inbO).emb (ix2 (0 : Fin 1) (y 1 : Fin 768)) = y := by
      funext x
      refine Fin.ext ((ValueKit.rect_emb_unit_val _ _ _ _ _).trans ?_)
      match x with
      | ⟨0, _⟩ => exact h.symm
      | ⟨1, _⟩ => exact Nat.zero_add _
    have := View.read_slice_write_emb (v := E.a4.view) (Val := Elt F) (Rect.unit (s := S8x768) ![b.val, 0] S1x768.size inbO) f v (M := Finset.univ) (x := ix2 (0 : Fin 1) (y 1 : Fin 768)) (Finset.mem_univ _)
    rw [hy] at this
    exact this
  · rw [if_neg h]
    refine View.read_slice_write_of_not_mem (v := E.a4.view) (Val := Elt F) (Rect.unit (s := S8x768) ![b.val, 0] S1x768.size inbO) f v Finset.univ (fun hm => h ?_)
    refine Exists.elim (Finset.mem_map.1 hm) fun z hz' => ?_
    have hz := hz'.2
    have := congrArg Fin.val (congrFun hz 0)
    rw [ValueKit.rect_emb_unit_val] at this
    have hz0 : (z 0).val < 1 := (z 0).isLt
    rw [← this]
    show b.val + (z 0).val = b.val
    omega

/-- A block is treated: its buffer comes to rest, its product is added if any of its rows count. -/
theorem step_acc (m : Fin 5) (b : Fin 8) (j : Fin 2) (hσ : σ.get m = .ready b j) {a' : Out F → Prop} (ha : ∀ o o', a o → accRel V b j o o' → a' o') {inst}
    {o1 : Fin 1 → ℕ} (h1 : o1 = ![b.val]) {inb1 : ∀ x, o1 x + S1.size x ≤ S8.size x} {hn} {hw}
    {oW : Fin 4 → ℕ} (hW : oW = ![b.val, j.val, 0, 0]) {inbW : ∀ x, oW x + S1x1x1x1024.size x ≤ S8x2x1x1024.size x} {hlW}
    {oO : Fin 2 → ℕ} (hO : oO = ![b.val, 0]) {inbO : ∀ x, oO x + S1x768.size x ≤ S8x768.size x} {hlO} {hlO'}
    {inbX : ∀ x, (![0, 0] : Fin 2 → ℕ) x + S1024x768.size x ≤ S1024x768.size x} {hlX} {hx} {hm} {rest : Prog (TpuEff nD τ sig (Elt F) Λ₀ .tc) α}
    (hr : St d E V (σ.set m .idle) a' ⊢ twp d rest Q) :
    St d E V σ a ⊢ twp d (@ite _ (accFlag (V.lw b) j = 1#1) inst
      (smemLoad E.a1 (Rect.unit (s := S8) o1 S1.size inb1) hn hw >>= fun w : BitVec 32 =>
        Prog.lift (.load E.a2 (Rect.unit (s := S8x2x1x1024) oW S1x1x1x1024.size inbW).toLoadRect hlW) >>= fun v =>
        Prog.lift (.load E.a4 (Rect.unit (s := S8x768) oO S1x768.size inbO).toLoadRect hlO) >>= fun r =>
        Prog.lift (.load (E.buf m) (Rect.unit (s := S1024x768) ![0, 0] S1024x768.size inbX).toLoadRect hlX) >>= fun x =>
        Prog.lift (.load E.a4 (Rect.unit (s := S8x768) oO S1x768.size inbO).toLoadRect hlO') >>= fun _ =>
        Prog.lift (.store E.a4 (Rect.unit (s := S8x768) oO S1x768.size inbO) (accV j w v r x) Finset.univ hx hm) >>= fun _ => rest) rest) Q := by
  refine step_region (σ' := σ.set m .idle) (a' := a') (fun h => ?_) (fun h => ?_) hr
  · have hp : isPart E V b j := (accFlag_iff (V.lw_lt b) j).1 h
    refine step_lens b h1 ?_
    unfold St Base
    iintro ⟨⟨HX, HL, HW, ⟨%f, Hf, %haf⟩, Hw⟩, HS⟩
    iapply (wp_load 𝒱₀ d.tc none Set.univ (m := E.a2) (S := Finset.univ) (q := fullShare) (f := V.fw) (Finset.subset_univ _)) $$ HW
    iintro HW
    iapply (wp_load 𝒱₀ d.tc none Set.univ (m := E.a4) (S := Finset.univ) (q := fullShare) (f := f) (Finset.subset_univ _)) $$ Hf
    iintro Hf
    ihave H := (Slots_take (d := d) (V := V) σ m) $$ HS
    icases H with ⟨H, Hk⟩
    rw [hσ]
    ihave H := (show Slot d E V m (.ready b j) ⊢ iprop((∃ f, (View.loc d.tc (E.buf m).view ↦{fullShare} f)
        ∗ ⌜∀ y : S1024x768.Idx, (y 0).val < rowsOf (V.len b) j → View.read (Elt F) (E.buf m).view f y = blk E.a3 V.fx b j y⌝)
        ∗ semVal (d.tc, SemLoc.dma (SemArray.sem (E.sem m))) 0) from .rfl) $$ H
    icases H with ⟨⟨%g, Hg, %hg⟩, Hs⟩
    iapply (wp_load 𝒱₀ d.tc none Set.univ (m := E.buf m) (S := Finset.univ) (q := fullShare) (f := g) (Finset.subset_univ _)) $$ Hg
    iintro Hg
    iapply (wp_load 𝒱₀ d.tc none Set.univ (m := E.a4) (S := Finset.univ) (q := fullShare) (f := f) (Finset.subset_univ _)) $$ Hf
    iintro Hf
    iapply (wp_store 𝒱₀ d.tc none Set.univ (m := E.a4) (hx := hx) (hm := hm) (S := Finset.univ) (f := f) (Finset.subset_univ _)) $$ Hf
    iintro Hf
    iapply hr
    unfold St Base
    isplitr [Hk Hg Hs]
    · isplitl [HX]; · iexact HX
      isplitl [HL]; · iexact HL
      isplitl [HW]; · iexact HW
      isplitl [Hf]
      · iexists _
        isplitl; · iexact Hf
        ipureintro
        rw [read_store_row b hO]
        refine ha _ _ haf ?_
        unfold accRel
        rw [if_pos hp]
        refine ⟨E.buf m |>.view.read (Elt F) g, hg, ?_⟩
        subst hW hO
        have e1 : E.a2.view.readAt (Elt F) (Rect.unit (s := S8x2x1x1024) ![b.val, j.val, 0, 0] S1x1x1x1024.size inbW).toLoadRect V.fw = wRow V b j := by
          funext y
          unfold wRow
          refine congrArg (E.a2.view.read (Elt F) V.fw) (funext fun x => Fin.ext ((ValueKit.rect_emb_unit_val _ _ _ _ _).trans ?_))
          match x with
          | ⟨0, _⟩ => have : (y 0).val < 1 := (y 0).isLt; show b.val + (y 0).val = b.val; omega
          | ⟨1, _⟩ => have : (y 1).val < 1 := (y 1).isLt; show j.val + (y 1).val = j.val; omega
          | ⟨2, _⟩ => have : (y 2).val < 1 := (y 2).isLt; show 0 + (y 2).val = 0; omega
          | ⟨3, _⟩ => exact Nat.zero_add _
        have e2 : E.a4.view.readAt (Elt F) (Rect.unit (s := S8x768) ![b.val, 0] S1x768.size inbO).toLoadRect f = oRow (E.a4.view.read (Elt F) f) b := by
          funext y
          unfold oRow
          refine congrArg (E.a4.view.read (Elt F) f) (funext fun x => Fin.ext ((ValueKit.rect_emb_unit_val _ _ _ _ _).trans ?_))
          match x with
          | ⟨0, _⟩ => have : (y 0).val < 1 := (y 0).isLt; show b.val + (y 0).val = b.val; omega
          | ⟨1, _⟩ => exact Nat.zero_add _
        have e3 : (E.buf m).view.readAt (Elt F) (Rect.unit (s := S1024x768) ![0, 0] S1024x768.size inbX).toLoadRect g = (E.buf m).view.read (Elt F) g :=
          View.readAt_full (E.buf m).view g inbX
        rw [← e1, ← e2, ← e3]
      · iexact Hw
    · iapply Hk
      iapply (show Idle d (E.buf m) (E.sem m) ⊢ Slot d E V m .idle from .rfl)
      unfold Idle
      isplitl [Hg]; · iexists g; iexact Hg
      iexact Hs
  · have hp : ¬ isPart E V b j := fun hp => h ((accFlag_iff (V.lw_lt b) j).2 hp)
    refine BIBase.Entails.trans (Q := St d E V σ a') ?_ (St_slot m (s' := .idle) hσ ((Ready.idle d E.a3 V.fx (E.buf m) (E.sem m) (V.len b) b j).trans fupd_intro))
    unfold St Base
    iintro ⟨⟨HX, HL, HW, ⟨%f, Hf, %haf⟩, Hw⟩, HS⟩
    isplitr [HS]
    · isplitl [HX]; · iexact HX
      isplitl [HL]; · iexact HL
      isplitl [HW]; · iexact HW
      isplitl [Hf]
      · iexists f
        isplitl; · iexact Hf
        ipureintro
        refine ha _ _ haf ?_
        unfold accRel
        rw [if_neg hp]
      · iexact Hw
    · iexact HS

end Cert.Proof

end
-- ==== Proof.TcStarts.lean ====
/-
  The fifteen first starts, and the fifteen first waits, of a block's transfers of 64 rows: one program for every block
  and buffer, and what it does.
-/
module

public import proofs.«01_k».proof.Proof.TcAcc

@[expose] public section

noncomputable section

namespace Cert.Proof

open Cert.KernelIdeal Cert.KernelIdeal.Gen
open Idealize.ShloMosaic Idealize.ShloMosaic.Transfers
open Idealize.ShloMosaic.SparseCore.Cfg (HIx)
open Idealize.SL Idealize.SL.RA Idealize.SL.BI Idealize.SL.BI.Laws Idealize.SL.ProofMode
open Idealize.SL.BI.BIBase
open Idealize.SL.Sem

variable {F : FTy → Type} [FloatOps F]

theorem inb2 (k : Fin 16) : ∀ x, (![64 * k.val, 0] : Fin 2 → ℕ) x + S64x768.size x ≤ S1024x768.size x := by
  revert k; decide
theorem inb4 (b : Fin 8) (j : Fin 2) (k : Fin 16) :
    ∀ x, (![b.val, 3, 1024 * j.val + 64 * k.val, 0] : Fin 4 → ℕ) x + S1x1x64x768.size x ≤ S8x4x2048x768.size x := by
  revert b j k; decide +kernel

/-- The 64 rows `k` of a buffer. -/
def rows2 (E : Env) (m : Fin 5) (k : Fin 16) : Memref sig .tc .vmem S64x768 .f32 :=
  (E.buf m).slice (Rect.unit (s := S1024x768) ![64 * k.val, 0] S64x768.size (inb2 k)) (fun _ => rfl)
/-- The 64 rows `k` of block `j` of batch `b` of the operand. -/
def rows4 (E : Env) (b : Fin 8) (j : Fin 2) (k : Fin 16) : Memref sig .tc .hbm S64x768 .f32 :=
  (E.a3.slice (Rect.unit (s := S8x4x2048x768) ![b.val, 3, 1024 * j.val + 64 * k.val, 0] S1x1x64x768.size (inb4 b j k)) (fun _ => rfl)).squeeze S64x768 squeezes_S1x1x64x768_S64x768

/-- One start of 64 rows, if `v` says it is due. -/
def startIf (E : Env) (m : Fin 5) (b : Fin 8) (j : Fin 2) (k : Fin 16) (v : BitVec 1) (rest : Prog (TpuEff nD τ sig (Elt F) Λ₀ .tc) PUnit) :
    Prog (TpuEff nD τ sig (Elt F) Λ₀ .tc) PUnit :=
  if tst v = 1#1 then
    Prog.lift (.enqueueDma (rows4 E b j k) (.here (rows2 E m k)) (.dma (E.sem m).sem) ((View.wordExact_bits rfl).reshape _ _) (View.wordExact_bits rfl) ⟨Or.inl rfl, trivial⟩) >>= fun _ => rest
  else rest

/-- One wait for 64 rows, if `v` says it is due. -/
def waitIf (E : Env) (m : Fin 5) (b : Fin 8) (j : Fin 2) (k : Fin 16) (v : BitVec 1) (rest : Prog (TpuEff nD τ sig (Elt F) Λ₀ .tc) PUnit) :
    Prog (TpuEff nD τ sig (Elt F) Λ₀ .tc) PUnit :=
  if tst v = 1#1 then
    Prog.lift (.waitDma2 (E.sem m).sem (rows4 E b j k) (rows2 E m k) ((View.wordExact_bits rfl).reshape _ _) (View.wordExact_bits rfl)) >>= fun _ => rest
  else rest

/-- The starts `l` in turn. -/
def startsOf (E : Env) (m : Fin 5) (b : Fin 8) (j : Fin 2) (w : BitVec 32) : List (Fin 16) → Prog (TpuEff nD τ sig (Elt F) Λ₀ .tc) PUnit
  | [] => pure ⟨⟩
  | k :: l => startIf E m b j k (subFlag w j k.val) (startsOf E m b j w l)

/-- The waits `l` in turn. -/
def waitsOf (E : Env) (m : Fin 5) (b : Fin 8) (j : Fin 2) (w : BitVec 32) : List (Fin 16) → Prog (TpuEff nD τ sig (Elt F) Λ₀ .tc) PUnit
  | [] => pure ⟨⟩
  | k :: l => waitIf E m b j k (subFlag w j k.val) (waitsOf E m b j w l)

/-- The first fifteen. -/
abbrev first15 : List (Fin 16) := [0, 1, 2, 3, 4, 5, 6, 7, 8, 9, 10, 11, 12, 13, 14]

variable {d : Dev nD} {E : Env} {V : Data F E} {σ : T5} {a : Out F → Prop}
variable {Q : PUnit → sProp (MT nD τ sig (HIx 1) (Elt F) ℕ UU ℕ)}

theorem step_startIf (m : Fin 5) (b : Fin 8) (j : Fin 2) (k : Fin 16) {rest : Prog (TpuEff nD τ sig (Elt F) Λ₀ .tc) PUnit}
    (hr : St d E V (σ.set m (.sub b j (k.val + 1))) a ⊢ twp d rest Q) :
    St d E V (σ.set m (.sub b j k.val)) a ⊢ twp d (startIf E m b j k (subFlag (V.lw b) j k.val) rest) Q :=
  step_subStart m b j k.isLt rfl rfl (hs := fun _ => rfl) (hs4 := fun _ => rfl) (hsq := squeezes_S1x1x64x768_S64x768) hr

theorem step_waitIf (m : Fin 5) (b : Fin 8) (j : Fin 2) (k : Fin 16) {rest : Prog (TpuEff nD τ sig (Elt F) Λ₀ .tc) PUnit}
    (hr : St d E V (σ.set m (.wsub b j (k.val + 1))) a ⊢ twp d rest Q) :
    St d E V (σ.set m (.wsub b j k.val)) a ⊢ twp d (waitIf E m b j k (subFlag (V.lw b) j k.val) rest) Q :=
  step_subWait m b j k.isLt (hs := fun _ => rfl) hr

theorem step_startsOf (m : Fin 5) (b : Fin 8) (j : Fin 2) (l : List (Fin 16)) (n e : ℕ) (h : l.map Fin.val = List.range' n l.length) (he : e = n + l.length)
    (hr : St d E V (σ.set m (.sub b j e)) a ⊢ Q ⟨⟩) : St d E V (σ.set m (.sub b j n)) a ⊢ twp d (startsOf E m b j (V.lw b) l) Q := by
  induction l generalizing n with
  | nil => subst he; exact step_pure hr
  | cons k l ih =>
    have hk : k.val = n ∧ l.map Fin.val = List.range' (n + 1) l.length := by
      rw [List.map_cons, List.length_cons, List.range'_succ] at h
      exact List.cons.inj h
    have e1 := hk.1
    subst e1
    exact step_startIf m b j k (ih _ hk.2 (by rw [he, List.length_cons]; omega))

theorem step_waitsOf (m : Fin 5) (b : Fin 8) (j : Fin 2) (l : List (Fin 16)) (n e : ℕ) (h : l.map Fin.val = List.range' n l.length) (he : e = n + l.length)
    (hr : St d E V (σ.set m (.wsub b j e)) a ⊢ Q ⟨⟩) : St d E V (σ.set m (.wsub b j n)) a ⊢ twp d (waitsOf E m b j (V.lw b) l) Q := by
  induction l generalizing n with
  | nil => subst he; exact step_pure hr
  | cons k l ih =>
    have hk : k.val = n ∧ l.map Fin.val = List.range' (n + 1) l.length := by
      rw [List.map_cons, List.length_cons, List.range'_succ] at h
      exact List.cons.inj h
    have e1 := hk.1
    subst e1
    exact step_waitIf m b j k (ih _ hk.2 (by rw [he, List.length_cons]; omega))

theorem first15_range : first15.map Fin.val = List.range' 0 first15.length := by decide

/-- The start of a block's transfers of 64 rows: fifteen starts apart, `p`, and one. -/
theorem step_starts (m : Fin 5) (b : Fin 8) (j : Fin 2) {α : Type} {Q : α → sProp (MT nD τ sig (HIx 1) (Elt F) ℕ UU ℕ)} (hσ : σ.get m = .full b j) {inst} {inst'}
    {p : Prog (TpuEff nD τ sig (Elt F) Λ₀ .tc) PUnit} {rest : Prog (TpuEff nD τ sig (Elt F) Λ₀ .tc) α}
    {o2 : Fin 2 → ℕ} (h2 : o2 = ![960, 0]) {o4 : Fin 4 → ℕ} (h4 : o4 = ![b.val, 3, 1024 * j.val + 960, 0])
    {inb : ∀ a, o2 a + S64x768.size a ≤ S1024x768.size a} {hs}
    {inb4 : ∀ a, o4 a + S1x1x64x768.size a ≤ S8x4x2048x768.size a} {hs4} {hsq} {w1} {w2} {w3}
    (hp : p = startsOf E m b j (V.lw b) first15)
    (hr : St d E V (σ.set m (.fly b j)) a ⊢ twp d rest Q) :
    St d E V σ a ⊢ twp d (@ite _ (partFlag (V.lw b) j = 1#1) inst
      (p >>= fun _ => @ite _ (tst (subFlag (V.lw b) j 15) = 1#1) inst'
        (Prog.lift (.enqueueDma ((E.a3.slice (Rect.unit (s := S8x4x2048x768) o4 S1x1x64x768.size inb4) hs4).squeeze S64x768 hsq)
            (.here ((E.buf m).slice (Rect.unit (s := S1024x768) o2 S64x768.size inb) hs)) (.dma (E.sem m).sem) w1 w2 w3) >>= fun _ => rest) rest) rest) Q := by
  subst hp
  refine step_partStart m b j hσ (fun hr => step_bind (step_startsOf m b j first15 0 15 first15_range rfl ?_)) hr
  exact step_subStart m b j (kk := 15) (by decide) h2 h4 hr

/-- The wait for a block's transfers of 64 rows: fifteen waits apart, `p`, and one. -/
theorem step_waits (m : Fin 5) (b : Fin 8) (j : Fin 2) {α : Type} {Q : α → sProp (MT nD τ sig (HIx 1) (Elt F) ℕ UU ℕ)} (hσ : σ.get m = .half b j) {inst} {inst'}
    {p : Prog (TpuEff nD τ sig (Elt F) Λ₀ .tc) PUnit} {rest : Prog (TpuEff nD τ sig (Elt F) Λ₀ .tc) α}
    {src : Memref sig .tc .hbm S64x768 .f32} {o2 : Fin 2 → ℕ}
    {inb : ∀ a, o2 a + S64x768.size a ≤ S1024x768.size a} {hs} {w1} {w2}
    (hp : p = waitsOf E m b j (V.lw b) first15)
    (hr : St d E V (σ.set m (.ready b j)) a ⊢ twp d rest Q) :
    St d E V σ a ⊢ twp d (@ite _ (partFlag (V.lw b) j = 1#1) inst
      (p >>= fun _ => @ite _ (tst (subFlag (V.lw b) j 15) = 1#1) inst'
        (Prog.lift (.waitDma2 (E.sem m).sem src ((E.buf m).slice (Rect.unit (s := S1024x768) o2 S64x768.size inb) hs) w1 w2) >>= fun _ => rest) rest) rest) Q := by
  subst hp
  refine step_partWait m b j hσ (fun hr => step_bind (step_waitsOf m b j first15 0 15 first15_range rfl ?_)) hr
  exact step_subWait m b j (kk := 15) (by decide) hr

end Cert.Proof

end
-- ==== Proof.TcWalk.lean ====
/-
  The TensorCore body, statement by statement.
-/
module

public import proofs.«01_k».proof.Proof.TcStarts

@[expose] public section

noncomputable section

namespace Cert.Proof

open Cert.KernelIdeal Cert.KernelIdeal.Gen
open Idealize.ShloMosaic Idealize.ShloMosaic.Transfers
open Idealize.ShloMosaic.SparseCore.Cfg (HIx)
open Idealize.SL Idealize.SL.RA Idealize.SL.BI Idealize.SL.BI.Laws Idealize.SL.ProofMode
open Idealize.SL.BI.BIBase
open Idealize.SL.Sem

variable {F : FTy → Type} [FloatOps F]
variable {d : Dev nD} {E : Env} {V : Data F E} {σ : T5} {a : Out F → Prop}
variable {Q : PUnit → sProp (MT nD τ sig (HIx 1) (Elt F) ℕ UU ℕ)}

set_option maxHeartbeats 0 in
/-- The TensorCore body from buffers at rest: the buffers at rest again, the result one that the sixteen blocks make. -/
theorem walk (i : grid1.Coords) (hQ : St d E V ⟨.idle, .idle, .idle, .idle, .idle⟩ (accAfter V 16) ⊢ Q ⟨⟩) :
    St d E V ⟨.idle, .idle, .idle, .idle, .idle⟩ a ⊢ twp d (cc1_body i E.a1 E.h1 E.a2 E.h2 E.a3 E.h3 E.a4 E.h4 E.a5 E.h5 E.a6 E.h6 E.a7 E.h7 E.a8 E.h8 E.a9 E.h9 E.a10 E.a11 E.a12 E.a13 E.a14) Q := by
  delta cc1_body
  refine step_bind ?_
  delta k1_part87
  refine step_bind ?_
  delta k1_part33
  refine step_zero ?_
  refine step_lens 0 rfl ?_
  refine step_lens 1 rfl ?_
  refine step_pure ?_
  refine step_bind ?_
  delta k1_part34
  refine step_lens 2 rfl ?_
  refine step_lens 3 rfl ?_
  refine step_pure ?_
  refine step_bind ?_
  delta k1_part35
  refine step_lens 4 rfl ?_
  refine step_lens 5 rfl ?_
  refine step_pure ?_
  refine step_bind ?_
  delta k1_part36
  refine step_lens 6 rfl ?_
  refine step_lens 7 rfl ?_
  refine step_pure ?_
  refine step_bind ?_
  delta k1_part37
  refine step_lens 0 rfl ?_
  refine step_lens 1 rfl ?_
  refine step_pure ?_
  refine step_bind ?_
  delta k1_part38
  refine step_lens 2 rfl ?_
  refine step_lens 3 rfl ?_
  refine step_lens 4 rfl ?_
  refine step_pure ?_
  refine step_bind ?_
  delta k1_part39
  refine step_lens 5 rfl ?_
  refine step_lens 6 rfl ?_
  refine step_pure ?_
  refine step_bind ?_
  delta k1_part40
  refine step_lens 7 rfl ?_
  refine step_lens 0 rfl ?_
  refine step_pure ?_
  refine step_bind ?_
  delta k1_part41
  refine step_fullStart 0 0 0 rfl rfl ?_
  refine step_starts 0 0 0 rfl rfl rfl rfl ?_
  refine step_pure ?_
  refine step_bind ?_
  delta k1_part42
  refine step_lens 0 rfl ?_
  refine step_fullStart 1 0 1 rfl rfl ?_
  refine step_pure ?_
  refine step_bind ?_
  delta k1_part43
  refine step_starts 1 0 1 rfl rfl rfl rfl ?_
  refine step_lens 1 rfl ?_
  refine step_pure ?_
  refine step_bind ?_
  delta k1_part44
  refine step_fullStart 2 1 0 rfl rfl ?_
  refine step_starts 2 1 0 rfl rfl rfl rfl ?_
  refine step_lens 1 rfl ?_
  refine step_pure ?_
  refine step_bind ?_
  delta k1_part45
  refine step_fullStart 3 1 1 rfl rfl ?_
  refine step_pure ?_
  refine step_bind ?_
  delta k1_part46
  refine step_starts 3 1 1 rfl rfl rfl rfl ?_
  refine step_lens 0 rfl ?_
  refine step_fullWait 0 0 0 rfl ?_
  refine step_pure ?_
  refine step_bind ?_
  delta k1_part47
  refine step_waits 0 0 0 rfl rfl ?_
  refine step_lens 2 rfl ?_
  refine step_pure ?_
  refine step_bind ?_
  delta k1_part48
  refine step_fullStart 4 2 0 rfl rfl ?_
  refine step_pure ?_
  refine step_bind ?_
  delta k1_part49
  refine step_starts 4 2 0 rfl rfl rfl rfl ?_
  refine step_acc 0 0 0 rfl (a' := accAfter V 1) (fun o o' h h' => ⟨o, h, h'⟩) rfl rfl rfl ?_
  refine step_lens 0 rfl ?_
  refine step_fullWait 1 0 1 rfl ?_
  refine step_pure ?_
  refine step_bind ?_
  delta k1_part50
  refine step_waits 1 0 1 rfl rfl ?_
  refine step_lens 2 rfl ?_
  refine step_pure ?_
  refine step_bind ?_
  delta k1_part51
  refine step_fullStart 0 2 1 rfl rfl ?_
  refine step_pure ?_
  refine step_bind ?_
  delta k1_part52
  refine step_starts 0 2 1 rfl rfl rfl rfl ?_
  refine step_acc 1 0 1 rfl (a' := accAfter V 2) (fun o o' h h' => ⟨o, h, h'⟩) rfl rfl rfl ?_
  refine step_lens 1 rfl ?_
  refine step_fullWait 2 1 0 rfl ?_
  refine step_pure ?_
  refine step_bind ?_
  delta k1_part53
  refine step_waits 2 1 0 rfl rfl ?_
  refine step_lens 3 rfl ?_
  refine step_pure ?_
  refine step_bind ?_
  delta k1_part54
  refine step_fullStart 1 3 0 rfl rfl ?_
  refine step_starts 1 3 0 rfl rfl rfl rfl ?_
  refine step_pure ?_
  refine step_bind ?_
  delta k1_part55
  refine step_acc 2 1 0 rfl (a' := accAfter V 3) (fun o o' h h' => ⟨o, h, h'⟩) rfl rfl rfl ?_
  refine step_lens 1 rfl ?_
  refine step_fullWait 3 1 1 rfl ?_
  refine step_pure ?_
  refine step_bind ?_
  delta k1_part56
  refine step_waits 3 1 1 rfl rfl ?_
  refine step_lens 3 rfl ?_
  refine step_pure ?_
  refine step_bind ?_
  delta k1_part57
  refine step_fullStart 2 3 1 rfl rfl ?_
  refine step_starts 2 3 1 rfl rfl rfl rfl ?_
  refine step_acc 3 1 1 rfl (a' := accAfter V 4) (fun o o' h h' => ⟨o, h, h'⟩) rfl rfl rfl ?_
  refine step_pure ?_
  refine step_bind ?_
  delta k1_part58
  refine step_lens 2 rfl ?_
  refine step_fullWait 4 2 0 rfl ?_
  refine step_pure ?_
  refine step_bind ?_
  delta k1_part59
  refine step_waits 4 2 0 rfl rfl ?_
  refine step_lens 4 rfl ?_
  refine step_pure ?_
  refine step_bind ?_
  delta k1_part60
  refine step_fullStart 3 4 0 rfl rfl ?_
  refine step_starts 3 4 0 rfl rfl rfl rfl ?_
  refine step_acc 4 2 0 rfl (a' := accAfter V 5) (fun o o' h h' => ⟨o, h, h'⟩) rfl rfl rfl ?_
  refine step_lens 2 rfl ?_
  refine step_pure ?_
  refine step_bind ?_
  delta k1_part61
  refine step_fullWait 0 2 1 rfl ?_
  refine step_pure ?_
  refine step_bind ?_
  delta k1_part62
  refine step_waits 0 2 1 rfl rfl ?_
  refine step_lens 4 rfl ?_
  refine step_pure ?_
  refine step_bind ?_
  delta k1_part63
  refine step_fullStart 4 4 1 rfl rfl ?_
  refine step_starts 4 4 1 rfl rfl rfl rfl ?_
  refine step_acc 0 2 1 rfl (a' := accAfter V 6) (fun o o' h h' => ⟨o, h, h'⟩) rfl rfl rfl ?_
  refine step_lens 3 rfl ?_
  refine step_pure ?_
  refine step_bind ?_
  delta k1_part64
  refine step_fullWait 1 3 0 rfl ?_
  refine step_pure ?_
  refine step_bind ?_
  delta k1_part65
  refine step_waits 1 3 0 rfl rfl ?_
  refine step_lens 5 rfl ?_
  refine step_pure ?_
  refine step_bind ?_
  delta k1_part66
  refine step_fullStart 0 5 0 rfl rfl ?_
  refine step_starts 0 5 0 rfl rfl rfl rfl ?_
  refine step_acc 1 3 0 rfl (a' := accAfter V 7) (fun o o' h h' => ⟨o, h, h'⟩) rfl rfl rfl ?_
  refine step_lens 3 rfl ?_
  refine step_pure ?_
  refine step_bind ?_
  delta k1_part67
  refine step_fullWait 2 3 1 rfl ?_
  refine step_pure ?_
  refine step_bind ?_
  delta k1_part68
  refine step_waits 2 3 1 rfl rfl ?_
  refine step_lens 5 rfl ?_
  refine step_fullStart 1 5 1 rfl rfl ?_
  refine step_pure ?_
  refine step_bind ?_
  delta k1_part69
  refine step_starts 1 5 1 rfl rfl rfl rfl ?_
  refine step_acc 2 3 1 rfl (a' := accAfter V 8) (fun o o' h h' => ⟨o, h, h'⟩) rfl rfl rfl ?_
  refine step_lens 4 rfl ?_
  refine step_pure ?_
  refine step_bind ?_
  delta k1_part70
  refine step_fullWait 3 4 0 rfl ?_
  refine step_pure ?_
  refine step_bind ?_
  delta k1_part71
  refine step_waits 3 4 0 rfl rfl ?_
  refine step_lens 6 rfl ?_
  refine step_fullStart 2 6 0 rfl rfl ?_
  refine step_pure ?_
  refine step_bind ?_
  delta k1_part72
  refine step_starts 2 6 0 rfl rfl rfl rfl ?_
  refine step_acc 3 4 0 rfl (a' := accAfter V 9) (fun o o' h h' => ⟨o, h, h'⟩) rfl rfl rfl ?_
  refine step_lens 4 rfl ?_
  refine step_pure ?_
  refine step_bind ?_
  delta k1_part73
  refine step_fullWait 4 4 1 rfl ?_
  refine step_pure ?_
  refine step_bind ?_
  delta k1_part74
  refine step_waits 4 4 1 rfl rfl ?_
  refine step_lens 6 rfl ?_
  refine step_fullStart 3 6 1 rfl rfl ?_
  refine step_pure ?_
  refine step_bind ?_
  delta k1_part75
  refine step_starts 3 6 1 rfl rfl rfl rfl ?_
  refine step_acc 4 4 1 rfl (a' := accAfter V 10) (fun o o' h h' => ⟨o, h, h'⟩) rfl rfl rfl ?_
  refine step_lens 5 rfl ?_
  refine step_pure ?_
  refine step_bind ?_
  delta k1_part76
  refine step_fullWait 0 5 0 rfl ?_
  refine step_pure ?_
  refine step_bind ?_
  delta k1_part77
  refine step_waits 0 5 0 rfl rfl ?_
  refine step_lens 7 rfl ?_
  refine step_fullStart 4 7 0 rfl rfl ?_
  refine step_pure ?_
  refine step_bind ?_
  delta k1_part78
  refine step_starts 4 7 0 rfl rfl rfl rfl ?_
  refine step_acc 0 5 0 rfl (a' := accAfter V 11) (fun o o' h h' => ⟨o, h, h'⟩) rfl rfl rfl ?_
  refine step_lens 5 rfl ?_
  refine step_pure ?_
  refine step_bind ?_
  delta k1_part79
  refine step_fullWait 1 5 1 rfl ?_
  refine step_waits 1 5 1 rfl rfl ?_
  refine step_lens 7 rfl ?_
  refine step_pure ?_
  refine step_bind ?_
  delta k1_part80
  refine step_fullStart 0 7 1 rfl rfl ?_
  refine step_pure ?_
  refine step_bind ?_
  delta k1_part81
  refine step_starts 0 7 1 rfl rfl rfl rfl ?_
  refine step_acc 1 5 1 rfl (a' := accAfter V 12) (fun o o' h h' => ⟨o, h, h'⟩) rfl rfl rfl ?_
  refine step_lens 6 rfl ?_
  refine step_pure ?_
  refine step_bind ?_
  delta k1_part82
  refine step_fullWait 2 6 0 rfl ?_
  refine step_waits 2 6 0 rfl rfl ?_
  refine step_acc 2 6 0 rfl (a' := accAfter V 13) (fun o o' h h' => ⟨o, h, h'⟩) rfl rfl rfl ?_
  refine step_pure ?_
  refine step_bind ?_
  delta k1_part83
  refine step_lens 6 rfl ?_
  refine step_fullWait 3 6 1 rfl ?_
  refine step_pure ?_
  refine step_bind ?_
  delta k1_part84
  refine step_waits 3 6 1 rfl rfl ?_
  refine step_acc 3 6 1 rfl (a' := accAfter V 14) (fun o o' h h' => ⟨o, h, h'⟩) rfl rfl rfl ?_
  refine step_lens 7 rfl ?_
  refine step_pure ?_
  refine step_bind ?_
  delta k1_part85
  refine step_fullWait 4 7 0 rfl ?_
  refine step_waits 4 7 0 rfl rfl ?_
  refine step_pure ?_
  refine step_bind ?_
  delta k1_part86
  refine step_acc 4 7 0 rfl (a' := accAfter V 15) (fun o o' h h' => ⟨o, h, h'⟩) rfl rfl rfl ?_
  refine step_lens 7 rfl ?_
  refine step_fullWait 0 7 1 rfl ?_
  refine step_pure ?_
  refine step_pure ?_
  refine step_waits 0 7 1 rfl rfl ?_
  refine step_acc 0 7 1 rfl (a' := accAfter V 16) (fun o o' h h' => ⟨o, h, h'⟩) rfl rfl rfl ?_
  refine step_pure ?_
  exact hQ

end Cert.Proof

end
-- ==== Proof.ScSteps.lean ====
/-
  The words a tile gathers by: the state of its two index buffers after some of the lanes' words have been written, and
  one lemma for each shape of statement that writes them.
-/
module

public import Idealize.ShloMosaic.Lib.ValueLayout
public import Idealize.ShloMosaic.Lib.Pipeline.ValueKit.Geometry
public import proofs.«01_k».proof.Proof.Base

@[expose] public section

noncomputable section

namespace Cert.Proof

open Cert.KernelIdeal Cert.KernelIdeal.Gen
open Idealize.ShloMosaic Idealize.ShloMosaic.Transfers
open Idealize.ShloMosaic.SparseCore.Cfg (HIx)
open Idealize.SL Idealize.SL.RA Idealize.SL.BI Idealize.SL.BI.Laws Idealize.SL.ProofMode
open Idealize.SL.BI.BIBase
open Idealize.SL.Sem
open Idealize.ShloMosaic.ValueIdx

variable {F : FTy → Type} [FloatOps F]

/-- The tile of a device that runs at coordinates `i`. -/
abbrev tl (d : Dev nD) (i : grid0.Coords) : Thread nD τ := (d, .scVector ((i 0).castLE hcore0) ((i 1).castLE hsub0))

/-- A tile's program meets `Q`. -/
abbrev swp (d : Dev nD) (i : grid0.Coords) {α : Type} (p : Prog (TpuEff nD τ sig (Elt F) Λ₀ (.scVector ((i 0).castLE hcore0) ((i 1).castLE hsub0))) α)
    (Q : α → sProp (MT nD τ sig (HIx 1) (Elt F) ℕ UU ℕ)) : sProp (MT nD τ sig (HIx 1) (Elt F) ℕ UU ℕ) :=
  wp frame (wpE (defs₀ (F := F)) 𝒱₀ (tl d i) none) Set.univ p Q

/-- The place in the table of entry `x` of a list of pairs: 320 times the first, plus the second. -/
def word (h : S512x2.Idx → BitVec 32) (x : Fin 512) : BitVec 32 := h (ix2 x 0) * 320#32 + h (ix2 x 1)

/-- The index vector of lanes `c, c+1, …`. -/
abbrev lanes (c : BitVec 32) : IVec S16 32 := addi (broadcast S16 c) (iota .scVector S16 32 [0] iota_S16_d0_w32_scVector)

theorem lanes_val {j : ℕ} (hj : j < 32) (x : S16.Idx) : (lanes (BitVec.ofNat 32 (16 * j)) x).toNat = 16 * j + (x 0).val := by
  have hx : (x 0).val < 16 := (x 0).isLt
  change (BitVec.ofNat 32 (16 * j) + BitVec.ofNat 32 (0 * 16 + (x 0).val)).toNat = _
  rw [Nat.zero_mul, Nat.zero_add, BitVec.toNat_add, BitVec.toNat_ofNat, BitVec.toNat_ofNat]
  omega

/-- The lanes' indices lie in the list of pairs. -/
theorem lanes_inb {j : ℕ} (hj : j < 32) {c : BitVec 32} (hc : c = BitVec.ofNat 32 (16 * j)) {z : BitVec 32} (hz : z.toNat < 2) :
    ∀ a x, ((![lanes c, broadcast S16 z] : Fin 2 → IVec S16 32) a x).toNat < S512x2.size a := by
  subst hc
  intro a x
  have hx : (x 0).val < 16 := (x 0).isLt
  match a with
  | ⟨0, _⟩ => change (lanes (BitVec.ofNat 32 (16 * j)) x).toNat < 512; rw [lanes_val hj]; omega
  | ⟨1, _⟩ => exact hz

section

variable {d : Dev nD} {i : grid0.Coords} {a5 : Memref sig .scVector .vmem S512x2 .i32} {a6 : Memref sig .scVector .vmem S512 .i32}
variable {f5 : Buf (Elt F) (a5.view.loc (tl d i))} {R : sProp (MT nD τ sig (HIx 1) (Elt F) ℕ UU ℕ)}
variable {α : Type} {Q : α → sProp (MT nD τ sig (HIx 1) (Elt F) ℕ UU ℕ)}

/-- The tile holds `R`, the list of pairs, and the list of words with its first `k` entries written. -/
def Words (d : Dev nD) (i : grid0.Coords) (a5 : Memref sig .scVector .vmem S512x2 .i32) (a6 : Memref sig .scVector .vmem S512 .i32)
    (f5 : Buf (Elt F) (a5.view.loc (tl d i))) (R : sProp (MT nD τ sig (HIx 1) (Elt F) ℕ UU ℕ)) (k : ℕ) : sProp (MT nD τ sig (HIx 1) (Elt F) ℕ UU ℕ) :=
  iprop(R ∗ (a5.view.loc (tl d i) ↦{fullShare} f5)
    ∗ ∃ g, (a6.view.loc (tl d i) ↦{fullShare} g) ∗ ⌜∀ x : Fin 512, x.val < k → a6.view.read (Elt F) g (ix1 x) = word (a5.view.read (Elt F) f5) x⌝)

theorem words_bind {β : Type} {p : Prog (TpuEff nD τ sig (Elt F) Λ₀ (.scVector ((i 0).castLE hcore0) ((i 1).castLE hsub0))) β}
    {k : β → Prog (TpuEff nD τ sig (Elt F) Λ₀ (.scVector ((i 0).castLE hcore0) ((i 1).castLE hsub0))) α} {P : sProp (MT nD τ sig (HIx 1) (Elt F) ℕ UU ℕ)}
    (h : P ⊢ swp d i p fun x => swp d i (k x) Q) : P ⊢ swp d i (p >>= k) Q :=
  h.trans (Entails.of_eq (wp_bind _ _ _ p k Q).symm)

theorem words_pure {x : α} {P : sProp (MT nD τ sig (HIx 1) (Elt F) ℕ UU ℕ)} (h : P ⊢ Q x) : P ⊢ swp d i (pure x) Q :=
  h.trans ((fupd_intro).trans (Entails.of_eq (wp_ret _ _ _ x Q).symm))

theorem words_assume {P : Prop} {dec : Decidable P} {k : PLift P → Prog (TpuEff nD τ sig (Elt F) Λ₀ (.scVector ((i 0).castLE hcore0) ((i 1).castLE hsub0))) α}
    {T : sProp (MT nD τ sig (HIx 1) (Elt F) ℕ UU ℕ)}
    (h : P) (hr : T ⊢ swp d i (k ⟨h⟩) Q) : T ⊢ swp d i (Prog.lift (TpuEff.assume P dec) >>= k) Q :=
  hr.trans (wp_assume 𝒱₀ (tl d i) none Set.univ h)

variable {n : ℕ}

/-- An indexed load of the list of pairs. -/
theorem words_gather {idxs : Fin 2 → IVec S16 32} {h : ∀ a x, (idxs a x).toNat < S512x2.size a} {hl}
    {k : Vec F S16 .i32 → Prog (TpuEff nD τ sig (Elt F) Λ₀ (.scVector ((i 0).castLE hcore0) ((i 1).castLE hsub0))) α}
    (hr : Words d i a5 a6 f5 R n ⊢ swp d i (k (loadIdx (e := .i32) (a5.view.read (Elt F) f5) idxs h)) Q) :
    Words d i a5 a6 f5 R n ⊢ swp d i (SparseCore.vectorLoadIdx a5 idxs h hl >>= k) Q := by
  have e : (a5.access (.whole S512x2)).read (Elt F) f5 = a5.view.read (Elt F) f5 := by
    funext x
    refine congrArg (fun z => a5.view.read (Elt F) f5 z) ?_
    funext a; exact Fin.ext (by simp [Rect.whole, Rect.emb])
  unfold Words
  iintro ⟨HR, H5, H6⟩
  iapply (SparseCore.wp_vectorLoadIdx 𝒱₀ (tl d i) none Set.univ (base := a5) (S := Finset.univ) (q := fullShare) (f := f5) (Finset.subset_univ _)) $$ H5
  iintro H5
  rw [e]
  iapply hr
  unfold Words
  isplitl [HR]; · iexact HR
  isplitl [H5]; · iexact H5
  iexact H6

/-- A load of the list of words, the value of no account. -/
theorem words_load {r : LoadRect S512} {hl}
    {k : (r.shape.Idx → Elt F .i32) → Prog (TpuEff nD τ sig (Elt F) Λ₀ (.scVector ((i 0).castLE hcore0) ((i 1).castLE hsub0))) α}
    (hr : ∀ v, Words d i a5 a6 f5 R n ⊢ swp d i (k v) Q) :
    Words d i a5 a6 f5 R n ⊢ swp d i (Prog.lift (.load a6 r hl) >>= k) Q := by
  unfold Words
  iintro ⟨HR, H5, ⟨%g, H6, %hg⟩⟩
  iapply (wp_load 𝒱₀ (tl d i) none Set.univ (m := a6) (r := r) (hl := hl) (k := k) (Q := Q) (S := Finset.univ) (q := fullShare) (f := g) (Finset.subset_univ _)) $$ H6
  iintro H6
  iapply (hr _)
  unfold Words
  isplitl [HR]; · iexact HR
  isplitl [H5]; · iexact H5
  iexists g
  isplitl [H6]; · iexact H6
  ipureintro; exact hg

omit [FloatOps F] in
/-- The word a lane's two indexed loads make. -/
theorem lanes_word {j : ℕ} (hj : j < 32) {c : BitVec 32} (hc : c = BitVec.ofNat 32 (16 * j)) (h : S512x2.Idx → BitVec 32) {h0 h1} (x : S16.Idx)
    (y : Fin 512) (hy : y.val = 16 * j + (x 0).val) :
    (addi (muli (loadIdx (F := F) (e := .i32) h ![lanes c, broadcast S16 0#32] h0) (broadcast S16 320#32))
      (loadIdx (F := F) (e := .i32) h ![lanes c, broadcast S16 1#32] h1) : IVec S16 32) x = word h y := by
  subst hc
  have e : ∀ (z : BitVec 32) (hz : z.toNat < 2) h0, loadIdx (F := F) (e := .i32) h ![lanes (BitVec.ofNat 32 (16 * j)), broadcast S16 z] h0 x = h (ix2 y ⟨z.toNat, hz⟩) := by
    intro z hz h0
    refine congrArg h ?_
    funext a
    match a with
    | ⟨0, _⟩ => exact Fin.ext ((lanes_val hj x).trans hy.symm)
    | ⟨1, _⟩ => exact Fin.ext rfl
  change loadIdx (F := F) (e := .i32) h ![lanes (BitVec.ofNat 32 (16 * j)), broadcast S16 0#32] h0 x * 320#32
    + loadIdx (F := F) (e := .i32) h ![lanes (BitVec.ofNat 32 (16 * j)), broadcast S16 1#32] h1 x = _
  rw [e 0#32 (by decide), e 1#32 (by decide)]
  rfl

/-- The store of sixteen words. -/
theorem words_store (j : ℕ) (hj : j < 32) {o : Fin 1 → ℕ} (ho : o = ![16 * j]) {inb : ∀ a, o a + S16.size a ≤ S512.size a}
    {v : IVec S16 32} (hv : ∀ (x : S16.Idx) (y : Fin 512), y.val = 16 * j + (x 0).val → v x = word (a5.view.read (Elt F) f5) y) {w1} {w2}
    {k : PUnit → Prog (TpuEff nD τ sig (Elt F) Λ₀ (.scVector ((i 0).castLE hcore0) ((i 1).castLE hsub0))) α}
    (hr : Words d i a5 a6 f5 R (16 * (j + 1)) ⊢ swp d i (k ⟨⟩) Q) :
    Words d i a5 a6 f5 R (16 * j) ⊢ swp d i (Prog.lift (.store a6 (Rect.unit (s := S512) o S16.size inb) v Finset.univ w1 w2) >>= k) Q := by
  subst ho
  unfold Words
  iintro ⟨HR, H5, ⟨%g, H6, %hg⟩⟩
  iapply (wp_store 𝒱₀ (tl d i) none Set.univ (m := a6) (r := Rect.unit (s := S512) ![16 * j] S16.size inb) (w := v) (Mk := Finset.univ) (k := k) (Q := Q) (S := Finset.univ) (f := g) (Finset.subset_univ _)) $$ H6
  iintro H6
  iapply hr
  unfold Words
  isplitl [HR]; · iexact HR
  isplitl [H5]; · iexact H5
  iexists _
  isplitl [H6]; · iexact H6
  ipureintro
  intro x hx
  by_cases hlt : x.val < 16 * j
  · rw [← hg x hlt]
    refine View.read_slice_write_of_not_mem (v := a6.view) (Val := Elt F) (Rect.unit (s := S512) ![16 * j] S16.size inb) g v Finset.univ (fun hm => ?_)
    refine Exists.elim (Finset.mem_map.1 hm) fun z hz => ?_
    have hz := congrArg Fin.val (congrFun hz.2 0)
    rw [ValueKit.rect_emb_unit_val] at hz
    change 16 * j + (z 0).val = x.val at hz
    omega
  · have e : ix1 x = (Rect.unit (s := S512) ![16 * j] S16.size inb).emb (ix1 ⟨x.val - 16 * j, by omega⟩) := by
      funext a
      match a with
      | ⟨0, _⟩ => exact Fin.ext (by rw [ValueKit.rect_emb_unit_val]; change x.val = 16 * j + (x.val - 16 * j); omega)
    refine Eq.trans (congrArg _ e) ?_
    refine (View.read_slice_write_emb (v := a6.view) (Val := Elt F) (Rect.unit (s := S512) ![16 * j] S16.size inb) g v (M := Finset.univ) (Finset.mem_univ _)).trans (hv _ _ ?_)
    change x.val = 16 * j + (x.val - 16 * j); omega

end

end Cert.Proof

end
-- ==== Proof.ScStream.lean ====
/-
  Several gathers by index list in flight on one semaphore: their rows are the members of one batch of transfers, each
  row of the same amount, and the waits collect the batch as a whole.
-/
module

public import proofs.«01_k».proof.Proof.Base

@[expose] public section

noncomputable section

namespace Cert.Proof

open Cert.KernelIdeal Cert.KernelIdeal.Gen
open Idealize.ShloMosaic Idealize.ShloMosaic.Transfers
open Idealize.ShloMosaic.SparseCore (rows gatherPayload gatherRow enqueueIndirectGather)
open Idealize.ShloMosaic.SparseCore.Cfg (HIx)
open Idealize.SL Idealize.SL.RA Idealize.SL.BI Idealize.SL.BI.Laws Idealize.SL.ProofMode
open Idealize.SL.BI.BIBase
open Idealize.SL.Sem

variable {F : FTy → Type} [FloatOps F]

local notation "𝕄" => MT nD τ sig (HIx 1) (Elt F) ℕ UU ℕ

omit [FloatOps F] in
/-- The members of a batch not yet started: the next `o` of them, and the rest. -/
theorem pending_take {n j o : ℕ} (h : j + o ≤ n) (Φ : Fin n → sProp 𝕄) :
    bigSep (pending j) Φ ⊢ iprop((bigSep Finset.univ fun i : Fin o => Φ ⟨j + i.val, by omega⟩) ∗ bigSep (pending (j + o)) Φ) := by
  let ψ : Fin o ↪ Fin n := ⟨fun i => ⟨j + i.val, by omega⟩, fun a b hab => Fin.ext (by
    have := congrArg Fin.val hab; change j + a.val = j + b.val at this; omega)⟩
  have hψ : ∀ i, (ψ i).val = j + i.val := fun _ => rfl
  have hp : ∀ (m : ℕ) (t : Fin n), t ∈ (pending m : Finset (Fin n)) ↔ m ≤ t.val := fun m t => by simp [pending]
  have e : (pending j : Finset (Fin n)) = Finset.univ.map ψ ∪ pending (j + o) := by
    ext t
    rw [Finset.mem_union, Finset.mem_map, hp, hp]
    constructor
    · intro ht
      by_cases h' : j + o ≤ t.val
      · exact .inr h'
      · exact .inl ⟨⟨t.val - j, by omega⟩, Finset.mem_univ _, Fin.ext (by rw [hψ]; simp only; omega)⟩
    · rintro (⟨i, -, rfl⟩ | h')
      · rw [hψ]; omega
      · omega
  have hd : Disjoint (Finset.univ.map ψ) (pending (j + o) : Finset (Fin n)) := by
    rw [Finset.disjoint_left]
    intro t ht ht'
    rw [hp] at ht'
    obtain ⟨i, -, rfl⟩ := Finset.mem_map.mp ht
    rw [hψ] at ht'; have := i.isLt; omega
  rw [e]
  exact (Entails.of_eq (BI.bigSep_union hd)).trans (sep_mono_left (Entails.of_eq (BI.bigSep_map _)))

section Gather

variable (c : Thread nD τ) {sp : Space} {s₀ s si : Shape} {e : EltTy} {a : Nat}
variable (src : Memref sig c.2.kind sp s₀ e) (dst : Memref sig c.2.kind .vmem s e) (hg : s₀.Gathers a s)
  (offs : Memref sig c.2.kind .vmem si .i32) (hn : si.numel = s.size hg.axis')
variable (q qo : PosShare TreeShare) (fs : Buf (Elt F) (src.view.loc c)) (fd : Buf (Elt F) (dst.view.loc c)) (fo : Buf (Elt F) (offs.view.loc c))
  (ho : 0 < s.size hg.axis') (hin : ∀ x, BitVec.toNat (w := 32) (offs.view.read (Elt F) fo x) < s₀.size hg.axis)

/-- The place in the list of its entry `j`. -/
abbrev entryOf (j : Fin (s.size hg.axis')) : si.Idx := si.rowMajor.symm (j.cast hn.symm)

omit [FloatOps F] in
theorem entryOf_bijective : Function.Bijective (entryOf hg hn) :=
  si.rowMajor.symm.bijective.comp (finCongr hn.symm).bijective

/-- What row `j` of a gather brings: the row of the destination written with the row of the source the list names, the
    entry of the list, and a share of the source. -/
def gatherD (j : Fin (s.size hg.axis')) : sProp 𝕄 :=
  iprop(((dst.view.loc c ↦[(dst.view.slice (s.rowRect hg.axis' j)).set]{fullShare}
        ((dst.view.slice (s.rowRect hg.axis' j)).write (Elt F) fd
          (fun i => src.view.read (Elt F) fs (hg.rowIdx (rows (offs.view.read (Elt F) fo) hn hin j) i)) Finset.univ))
      ∗ (offs.view.loc c ↦[{offs.view.emb (entryOf hg hn j)}]{qo} fo))
    ∗ (src.view.loc c ↦[src.view.set]{pieceOf q _ ho j} fs))

instance gatherD_storable (j : Fin (s.size hg.axis')) :
    Storable (upEmb : UEmb _ 𝕄) (gatherD c src dst hg offs hn q qo fs fd fo ho hin j) := by
  unfold gatherD; infer_instance

/-- All rows of a gather together: the destination written with what the list names, the source's share and the list's
    back. -/
theorem gatherD_join :
    bigSep Finset.univ (gatherD c src dst hg offs hn q qo fs fd fo ho hin)
      ⊢ iprop((dst.view.loc c ↦[dst.view.set]{fullShare}
            (dst.view.write (Elt F) fd (gatherPayload hg (src.view.read (Elt F) fs) (rows (offs.view.read (Elt F) fo) hn hin)) Finset.univ))
          ∗ (src.view.loc c ↦[src.view.set]{q} fs) ∗ (offs.view.loc c ↦[offs.view.set]{qo} fo)) := by
  unfold gatherD
  iintro HD
  ihave H1 := bigSep_sep_out _ _ _ $$ HD
  icases H1 with ⟨H2, Hsrc⟩
  ihave H3 := bigSep_sep_out _ _ _ $$ H2
  icases H3 with ⟨Hrows, Hoffs⟩
  isplitl [Hrows]
  · ihave Hw := (show bigSep Finset.univ (fun i => dst.view.loc c ↦[(dst.view.slice (s.rowRect hg.axis' i)).set]{fullShare}
        ((dst.view.slice (s.rowRect hg.axis' i)).write (Elt F) fd
          (fun x => src.view.read (Elt F) fs (hg.rowIdx (rows (offs.view.read (Elt F) fo) hn hin i) x)) Finset.univ)) ⊢ (_ : sProp 𝕄) from
      pointsTo_rows_write c dst.view hg.axis' fd
        (fun j i => src.view.read (Elt F) fs (hg.rowIdx (rows (offs.view.read (Elt F) fo) hn hin j) i))
        (gatherPayload hg (src.view.read (Elt F) fs) (rows (offs.view.read (Elt F) fo) hn hin))
        (fun j i => by unfold gatherPayload; rw [Shape.Gathers.idx_rowRect_emb])) $$ Hrows
    iexact Hw
  isplitl [Hsrc]; · iapply (Entails.of_eq (pointsTo_piecesOf (src.view.set) fs ho q).symm) $$ Hsrc
  iapply (Entails.of_eq (pointsTo_entries c offs.view (entryOf hg hn) (entryOf_bijective hg hn) qo fo).symm) $$ Hoffs

/-- The start of a gather whose rows are the next members of a batch. -/
theorem wp_gatherBatch {α : Type} {Q : α → sProp 𝕄} {Λ : Labels} {defs : Defs nD τ sig (Elt F) Λ} (𝒱 : Variants) (bd : Option 𝒱.V)
    {sem : DmaSem sig} {hp : c.2.kind = .scVector} {hsrc : src.view.WordExact} {he : e.bits = 32} {hsp : sp = .hbm ∨ sp = .shared} {hr : s₀.StreamRows a}
    {k : PUnit → Prog (TpuEff nD τ sig (Elt F) Λ c.2) α} {n j R : ℕ} {DD : Fin n → sProp 𝕄}
    (hj : j + s.size hg.axis' ≤ n)
    (hR : ∀ i, (dst.slice (s.rowRect hg.axis' i) (s.stride_rowRect hg.axis' i)).view.dmaCredit = R)
    (hDD : ∀ i, gatherD c src dst hg offs hn q qo fs fd fo ho hin i ⊢ DD ⟨j + i.val, by omega⟩) :
    iprop((src.view.loc c ↦[src.view.set]{q} fs) ∗ (dst.view.loc c ↦[dst.view.set]{fullShare} fd)
        ∗ (offs.view.loc c ↦[offs.view.set]{qo} fo) ∗ MixedBatch EC c (.dma sem) (none : HIx 1) (fun _ : Fin n => R) DD j 0)
      ⊢ iprop((MixedBatch EC c (.dma sem) (none : HIx 1) (fun _ : Fin n => R) DD (j + s.size hg.axis') 0 -∗ wp frame (wpE defs 𝒱 c bd) Set.univ (k ⟨⟩) Q)
          -∗ wp frame (wpE defs 𝒱 c bd) Set.univ (enqueueIndirectGather hp src dst hg offs hn sem hsrc he hsp hr >>= k) Q) := by
  rw [SparseCore.enqueueIndirectGather_bind]
  let S : Stream nD τ sig (Elt F) :=
    Stream.issued c offs.view hn sem (fun j w => (SparseCore.rowOf (s₀.size hg.axis) w).map (gatherRow c src dst hg sem hsrc he hsp hr j)) 0
  let rd : Fin (s.size hg.axis') → RowDma τ sig (Elt F) c.2 sem := fun i =>
    gatherRow c src dst hg sem hsrc he hsp hr i (rows (offs.view.read (Elt F) fo) hn hin i)
  have hA : S.RowsAgree := by
    intro i x x' ρ ρ' h h'
    obtain ⟨_, _, rfl⟩ := Option.map_eq_some_iff.mp h
    obtain ⟨_, _, rfl⟩ := Option.map_eq_some_iff.mp h'
    rfl
  have hrd : ∀ i, S.row i (S.word fo i) = some (rd i) := fun i => by
    change (SparseCore.rowOf (s₀.size hg.axis) (offs.view.read (Elt F) fo (S.entry i))).map _ = _
    rw [SparseCore.rowOf_of_lt (hin _)]; rfl
  have hN : ∑ i, (rd i).dst.view.dmaCredit = s.size hg.axis' * R := by
    rw [Finset.sum_congr rfl (fun i _ => hR i)]; simp
  unfold MixedBatch
  iintro ⟨Hs, Hd, Ho, ⟨%γ, %γ₀, %κ, #Hinv, HI, H0, Hcred⟩⟩ Hk
  ihave HI := (pending_take hj _) $$ HI
  icases HI with ⟨Hγ, HI⟩
  ihave Hd' := (Entails.of_eq (pointsTo_rows c dst.view hg.axis' fullShare fd)) $$ Hd
  ihave Ho' := (Entails.of_eq (pointsTo_entries c offs.view (entryOf hg hn) (entryOf_bijective hg hn) qo fo)) $$ Ho
  ihave Hs' := (Entails.of_eq (pointsTo_piecesOf (src.view.set) fs ho q)) $$ Hs
  iapply (wp_enqueueIndirectDma 𝒱 c bd Set.univ (qo := qo) (fo := fo) (rd := rd) (none : HIx 1) (s.size hg.axis' * R) hA hrd hN) $$ [Hd' Ho' Hs' Hγ]
  · have hrow : ∀ i : Fin (s.size hg.axis'), iprop(inv κ (mixedBody EC (c, SemLoc.dma sem) (fun _ : Fin n => R) DD γ γ₀)
          ∗ ((((dst.view.loc c ↦[(dst.view.slice (s.rowRect hg.axis' i)).set]{fullShare} fd) ∗ S.heldEntry qo fo i)
          ∗ (src.view.loc c ↦[src.view.set]{pieceOf q _ ho i} fs)) ∗ count EC (γ ⟨j + i.val, by omega⟩) 0))
        ⊢ iprop(S.heldEntry qo fo i ∗ (S.heldEntry qo fo i -∗ rowRes c (rd i))) := fun i => by
      iintro ⟨#Hinv, ⟨⟨Hr, He⟩, Hsq⟩, Hγi⟩
      isplitl [He]; · iexact He
      iintro He
      unfold rowRes
      iexists pieceOf q _ ho i, fs, iprop((dst.view.loc c ↦[(dst.view.slice (s.rowRect hg.axis' i)).set]{fullShare}
        ((dst.view.slice (s.rowRect hg.axis' i)).write (Elt F) fd (fun x => src.view.read (Elt F) fs (hg.rowIdx (rows (offs.view.read (Elt F) fo) hn hin i) x)) Finset.univ)) ∗ S.heldEntry qo fo i)
      isplitl [Hsq]; · iexact Hsq
      isplitl [Hr He]
      · iapply writeUpdate_frame
        isplitl [Hr]
        · iapply (pointsTo_writeUpdate c (v := dst.view.slice (s.rowRect hg.axis' i)) subset_rfl) $$ Hr
        · iexact He
      · rw [show (rd i).dst.view.amount (SemLoc.dma sem) = R from hR i]
        iapply (mixedBatch_creditUpdate EC (A := fun _ : Fin n => R) ⟨j + i.val, by omega⟩ (hDD i))
        isplitr; · iexact Hinv
        iexact Hγi
    unfold Stream.res
    ihave H1 := bigSep_sep_in _ _ _ $$ [Hd' Ho']; · isplitl [Hd'] <;> iassumption
    ihave H2 := bigSep_sep_in _ _ _ $$ [H1 Hs']; · isplitl [H1] <;> iassumption
    ihave H3 := bigSep_sep_in _ _ _ $$ [H2 Hγ]; · isplitl [H2] <;> iassumption
    iapply (bigSep_mono_pers Finset.univ _ _ _ fun i _ => hrow i)
    isplitr; · iexact Hinv
    iexact H3
  · iintro Hcred'
    iapply Hk
    iexists γ, γ₀, κ
    isplitr; · iexact Hinv
    isplitl [HI]; · iexact HI
    isplitl [H0]; · iexact H0
    rw [sumTo_const _ hj, sumTo_const _ (by omega : j ≤ n), Nat.sub_zero, Nat.sub_zero, Nat.add_mul, ← tallyAt_add]
    icombine Hcred Hcred' as H
    iexact H

end Gather

end Cert.Proof

end
-- ==== Proof.ScStages.lean ====
/-
  A tile's run in stages: its block of the pairs fetched, the words written, the four gathers in flight and collected, the
  gathered block sent out.
-/
module

public import proofs.«01_k».proof.Proof.ScSteps
public import proofs.«01_k».proof.Proof.ScStream

@[expose] public section

noncomputable section

namespace Cert.Proof

open Cert.KernelIdeal Cert.KernelIdeal.Gen
open Idealize.ShloMosaic Idealize.ShloMosaic.Transfers
open Idealize.ShloMosaic.SparseCore (rows gatherPayload enqueueIndirectGather waitIndirectGather)
open Idealize.ShloMosaic.SparseCore.Cfg (HIx)
open Idealize.SL Idealize.SL.RA Idealize.SL.BI Idealize.SL.BI.Laws Idealize.SL.ProofMode
open Idealize.SL.BI.BIBase
open Idealize.SL.Sem
open Idealize.ShloMosaic.ValueIdx

variable {F : FTy → Type} [FloatOps F]

local notation "𝕄" => MT nD τ sig (HIx 1) (Elt F) ℕ UU ℕ

/-- The memrefs and semaphores a tile's program is given. -/
structure TEnv where
  a2 : Memref sig .scVector .hbm S8x2048x2 .i32
  h2 : a2.IsWhole
  a3 : Memref sig .scVector .hbm S102400 .f32
  h3 : a3.IsWhole
  a4 : Memref sig .scVector .hbm S8x2x1x1024 .f32
  h4 : a4.IsWhole
  a5 : Memref sig .scVector .vmem S512x2 .i32
  h5 : a5.IsWhole
  a6 : Memref sig .scVector .vmem S512 .i32
  h6 : a6.IsWhole
  a7 : Memref sig .scVector .vmem S512 .f32
  h7 : a7.IsWhole
  s8 : DmaSems sig S_
  s9 : DmaSems sig S_
  s10 : DmaSems sig S_
  /-- What a gather of 128 entries counts is what its entries count. -/
  hcr : sig.dmaCredit .scVector (Kind.table .scVector .vmem) a7.view.buf S128 .f32
    = 128 * sig.dmaCredit .scVector (Kind.table .scVector .vmem) a7.view.buf (S128.rowShape gathers_S102400_S128.axis') .f32

namespace TEnv

variable (E : TEnv) (i : grid0.Coords)

/-- The block of pairs the tile fetches. -/
abbrev inK : Memref sig .scVector .hbm S512x2 .i32 :=
  (E.a2.slice (Rect.unit (s := S8x2048x2) (k0_off1 i) S1x512x2.size (k0_off1_inb i)) (fun _ => rfl)).squeeze S512x2 squeezes_S1x512x2_S512x2

/-- The block of the result the tile writes. -/
abbrev outK : Memref sig .scVector .hbm S512 .f32 :=
  (E.a4.slice (Rect.unit (s := S8x2x1x1024) (k0_off2 i) S1x1x1x512.size (k0_off2_inb i)) (fun _ => rfl)).squeeze S512 squeezes_S1x1x1x512_S512

theorem cut_inb (s : Fin 4) : ∀ a, (![128 * s.val] : Fin 1 → ℕ) a + S128.size a ≤ S512.size a := by
  intro a
  match a with
  | ⟨0, _⟩ => change 128 * s.val + 128 ≤ 512; omega

/-- Entries `128 s … 128 s + 127`. -/
abbrev cut (s : Fin 4) : Rect S512 := Rect.unit (s := S512) ![128 * s.val] S128.size (cut_inb s)

/-- The part of the result's buffer the gather `s` writes. -/
abbrev dstK (s : Fin 4) : Memref sig .scVector .vmem S128 .f32 := E.a7.slice (cut s) (fun _ => rfl)
/-- The words it reads. -/
abbrev offK (s : Fin 4) : Memref sig .scVector .vmem S128 .i32 := E.a6.slice (cut s) (fun _ => rfl)
/-- The table. -/
abbrev tabK : Memref sig .scVector .hbm S102400 .f32 :=
  E.a3.slice (Rect.unit (s := S102400) ![0] S102400.size inb_S102400_S102400_0) (fun _ => rfl)

/-- What one entry counts. -/
abbrev unit : ℕ := sig.dmaCredit .scVector (Kind.table .scVector .vmem) E.a7.view.buf (S128.rowShape gathers_S102400_S128.axis') .f32

end TEnv

/-- What a tile works with: the shares it reads by, the contents, and what it owes. -/
structure TData (F : FTy → Type) (d : Dev nD) (i : grid0.Coords) (E : TEnv) where
  q2 : PosShare TreeShare
  f2 : Buf (Elt F) (E.a2.view.loc (tl d i))
  q3 : PosShare TreeShare
  f3 : Buf (Elt F) (E.a3.view.loc (tl d i))
  O : CellTallies nD τ sig (HIx 1)
  W : Waits sig (HIx 1)
  /-- The words the tile makes name entries of the table. -/
  hb : ∀ x : Fin 512, (word ((E.inK i).view.read (Elt F) f2) x).toNat < 102400

section

variable {d : Dev nD} {i : grid0.Coords} {E : TEnv} (V : TData F d i E)

/-- The word of entry `x`. -/
abbrev TData.w (x : Fin 512) : BitVec 32 := word ((E.inK i).view.read (Elt F) V.f2) x

/-- What the tile owes, the waits it has made since being its own. -/
def SOwes : sProp 𝕄 := iprop(∃ W', ⌜∀ p ∈ W', p ∈ V.W ∨ p.2 = none⌝ ∗ owes (tl d i) V.O W')

/-- What every stage holds: the right to wait, and what is owed. -/
def Ctx : sProp 𝕄 := iprop(MayWaits (tl d i) (none : HIx 1) V.O ∗ SOwes V)

/-- What is not touched until the words are written. -/
def Later : sProp 𝕄 :=
  iprop((E.a3.view.loc (tl d i) ↦{V.q3} V.f3) ∗ (∃ f, E.a4.view.loc (tl d i) ↦[(E.outK i).view.set]{fullShare} f)
    ∗ (∃ f, E.a7.view.loc (tl d i) ↦{fullShare} f) ∗ semVal (tl d i, .dma E.s8.sem) 0 ∗ semVal (tl d i, .dma E.s10.sem) 0)

/-- Before anything. -/
def In0 : sProp 𝕄 :=
  iprop(Ctx V ∗ Later V ∗ (∃ f, E.a6.view.loc (tl d i) ↦{fullShare} f) ∗ (E.a2.view.loc (tl d i) ↦{V.q2} V.f2)
    ∗ (∃ f, E.a5.view.loc (tl d i) ↦{fullShare} f) ∗ semVal (tl d i, .dma E.s9.sem) 0)

/-- The fetch in flight. -/
def In1 : sProp 𝕄 :=
  iprop(Ctx V ∗ Later V ∗ (∃ f, E.a6.view.loc (tl d i) ↦{fullShare} f) ∗ (E.a2.view.loc (tl d i) ↦[Finset.univ \ (E.inK i).view.set]{V.q2} V.f2)
    ∗ ∃ f, Flight EC (tl d i) (.dma E.s9.sem) (none : HIx 1) E.a5.view.dmaCredit
        iprop((E.a5.view.loc (tl d i) ↦{fullShare} (E.a5.view.write (Elt F) f ((E.inK i).view.read (Elt F) V.f2) Finset.univ))
          ∗ (E.a2.view.loc (tl d i) ↦[(E.inK i).view.set]{V.q2} V.f2)))

/-- Beside the words. -/
def Rest : sProp 𝕄 := iprop(Ctx V ∗ Later V ∗ (E.a2.view.loc (tl d i) ↦{V.q2} V.f2) ∗ semVal (tl d i, .dma E.s9.sem) 0)

variable {V} {α : Type} {Q : α → sProp (MT nD τ sig (HIx 1) (Elt F) ℕ UU ℕ)}
variable {k : PUnit → Prog (TpuEff nD τ sig (Elt F) Λ₀ (.scVector ((i 0).castLE hcore0) ((i 1).castLE hsub0))) α}

/-- The fetch is started. -/
theorem in_start {w1} {w2} {w3} (hr : In1 V ⊢ swp d i (k ⟨⟩) Q) :
    In0 V ⊢ swp d i (Prog.lift (.enqueueDma (E.inK i) (.here E.a5) (.dma E.s9.sem) w1 w2 w3) >>= k) Q := by
  unfold In0
  iintro ⟨HC, HL, H6, H2, ⟨%f, H5⟩, Hs⟩
  ihave H2 := (pointsTo_split_subset (q := V.q2) (f := V.f2) (S := Finset.univ) (Finset.subset_univ (E.inK i).view.set)).1 $$ H2
  icases H2 with ⟨H2, H2r⟩
  iapply (Transfers.wp_dmaLocal EC 𝒱₀ (tl d i) none (src := E.inK i) (dst := E.a5) (sm := .dma E.s9.sem) (via := .same) (k := k) (Q := Q) (q := V.q2) (fs := V.f2) (Sd := Finset.univ) (fd := f)
    (none : HIx 1) E.a5.view.dmaCredit rfl (View.dmaCredit_pos _ (by decide)) (Finset.subset_univ _)) $$ [H2 H5 Hs]
  · isplitl [H2]; · iexact H2
    isplitl [H5]; · iexact H5
    iexact Hs
  iintro Hf
  iapply hr
  unfold In1
  isplitl [HC]; · iexact HC
  isplitl [HL]; · iexact HL
  isplitl [H6]; · iexact H6
  isplitl [H2r]; · iexact H2r
  iexists f; iexact Hf

/-- One more wait is recorded. -/
theorem owes_insert {W' : Waits sig (HIx 1)} (h : ∀ p ∈ W', p ∈ V.W ∨ p.2 = none) (s : SemLoc sig) :
    (owes (tl d i) V.O (insert (s, (none : HIx 1)) W') : sProp 𝕄) ⊢ SOwes V := by
  unfold SOwes
  iintro H
  iexists _
  isplitr
  swap; · iexact H
  ipureintro
  intro p hp
  rcases Finset.mem_insert.mp hp with hp | hp
  · exact .inr (hp ▸ rfl)
  · exact h p hp

/-- The fetch is waited for: the words can be written. -/
theorem in_wait {src : Memref sig .scVector .hbm S512x2 .i32} {w1} {w2}
    (hr : ∀ f5 : Buf (Elt F) (E.a5.view.loc (tl d i)), E.a5.view.read (Elt F) f5 = (E.inK i).view.read (Elt F) V.f2 →
      Words d i E.a5 E.a6 f5 (Rest V) 0 ⊢ swp d i (k ⟨⟩) Q) :
    In1 V ⊢ swp d i (Prog.lift (.waitDma2 E.s9.sem src E.a5 w1 w2) >>= k) Q := by
  unfold In1 Ctx SOwes
  iintro ⟨⟨#Hmw, ⟨%W', %hW, HO⟩⟩, HL, ⟨%g, H6⟩, H2r, ⟨%f, Hf⟩⟩
  iapply (Transfers.wp_waitLocalO EC 𝒱₀ (tl d i) none (sem := E.s9.sem) (srcw := src) (dstw := E.a5) (k := k) (Q := Q) (none : HIx 1) (rfl : E.a5.view.dmaCredit = _)) $$ [Hf HO]
  · isplitl [Hf]; · iexact Hf
    isplitl [HO]; · iexact HO
    iapply (Transfers.MayWaits.elim (SemLoc.dma E.s9.sem)) $$ Hmw
  iintro ⟨⟨H5, H2⟩, Hs, HO⟩
  ihave HO := (owes_insert hW (.dma E.s9.sem)) $$ HO
  ihave H2 := (pointsTo_split_subset (q := V.q2) (f := V.f2) (S := Finset.univ) (Finset.subset_univ (E.inK i).view.set)).2 $$ [H2 H2r]
  · isplitl [H2] <;> iassumption
  iapply (hr _ (View.read_write_univ ..))
  unfold Words Rest Ctx
  isplitl [HL H2 Hs HO]
  · isplitl [HO]
    · isplitr; · iexact Hmw
      iexact HO
    isplitl [HL]; · iexact HL
    isplitl [H2]; · iexact H2
    iexact Hs
  isplitl [H5]; · iexact H5
  iexists g
  isplitl [H6]; · iexact H6
  ipureintro; exact fun x hx => absurd hx (Nat.not_lt_zero _)

end

end Cert.Proof

end
-- ==== Proof.ScGathers.lean ====
/-
  The four gathers of a tile: all started on one semaphore before any is waited for, and collected by the last wait.
-/
module

public import proofs.«01_k».proof.Proof.ScStages

@[expose] public section

noncomputable section

namespace Cert.Proof

open Cert.KernelIdeal Cert.KernelIdeal.Gen
open Idealize.ShloMosaic Idealize.ShloMosaic.Transfers
open Idealize.ShloMosaic.SparseCore (rows gatherPayload enqueueIndirectGather waitIndirectGather)
open Idealize.ShloMosaic.SparseCore.Cfg (HIx)
open Idealize.SL Idealize.SL.RA Idealize.SL.BI Idealize.SL.BI.Laws Idealize.SL.ProofMode
open Idealize.SL.BI.BIBase
open Idealize.SL.Sem
open Idealize.ShloMosaic.ValueIdx

variable {F : FTy → Type} [FloatOps F]

local notation "𝕄" => MT nD τ sig (HIx 1) (Elt F) ℕ UU ℕ

variable {d : Dev nD} {i : grid0.Coords} {E : TEnv}

/-! ## The four parts of a list of 512 -/

/-- Entry `y` of part `s`. -/
theorem cut_emb (s : Fin 4) (y : S128.Idx) : (TEnv.cut s).emb y = ix1 ⟨128 * s.val + (y 0).val, by have : (y 0).val < 128 := (y 0).isLt; omega⟩ := by
  funext a
  match a with
  | ⟨0, _⟩ => exact Fin.ext (ValueKit.rect_emb_unit_val _ _ _ _ _)

/-- The parts' elements, of a buffer of 512 entries. -/
abbrev part {e : EltTy} (m : Memref sig .scVector .vmem S512 e) (s : Fin 4) : Finset m.view.ty.Idx := (m.slice (TEnv.cut s) (fun _ => rfl)).view.set

theorem mem_part {e : EltTy} {m : Memref sig .scVector .vmem S512 e} {s : Fin 4} {z : m.view.ty.Idx} :
    z ∈ part m s ↔ ∃ y, m.view.emb ((TEnv.cut s).emb y) = z :=
  Finset.mem_map.trans ⟨fun ⟨y, _, h⟩ => ⟨y, h⟩, fun ⟨y, h⟩ => ⟨y, Finset.mem_univ _, h⟩⟩

theorem part_disjoint {e : EltTy} (m : Memref sig .scVector .vmem S512 e) :
    ∀ s ∈ (Finset.univ : Finset (Fin 4)), ∀ t ∈ (Finset.univ : Finset (Fin 4)), s ≠ t → Disjoint (part m s) (part m t) := by
  intro s _ t _ hst
  rw [Finset.disjoint_left]
  intro z hz hz'
  obtain ⟨y, hy⟩ := mem_part.1 hz
  obtain ⟨y', hy'⟩ := mem_part.1 hz'
  refine hst ?_
  have h : m.view.emb ((TEnv.cut s).emb y) = m.view.emb ((TEnv.cut t).emb y') := hy.trans hy'.symm
  have h := m.view.emb.injective h
  rw [cut_emb, cut_emb] at h
  have h := congrArg Fin.val (congrFun h 0)
  change 128 * s.val + (y 0).val = 128 * t.val + (y' 0).val at h
  have h1 : (y 0).val < 128 := (y 0).isLt
  have h2 : (y' 0).val < 128 := (y' 0).isLt
  exact Fin.ext (by omega)

theorem part_cover {e : EltTy} {m : Memref sig .scVector .vmem S512 e} (hm : m.IsWhole) :
    Finset.univ.biUnion (part m) = Finset.univ := by
  rw [← hm.set_eq_univ]
  ext z
  rw [Finset.mem_biUnion]
  constructor
  · rintro ⟨s, -, hz⟩
    obtain ⟨y, hy⟩ := mem_part.1 hz
    exact Finset.mem_map.2 ⟨(TEnv.cut s).emb y, Finset.mem_univ _, hy⟩
  · intro hz
    obtain ⟨x, -, hx⟩ := Finset.mem_map.1 hz
    have hx0 : (x 0).val < 512 := (x 0).isLt
    refine ⟨⟨(x 0).val / 128, by omega⟩, Finset.mem_univ _, mem_part.2 ⟨ix1 ⟨(x 0).val % 128, by omega⟩, ?_⟩⟩
    refine Eq.trans (congrArg m.view.emb ?_) hx
    refine (cut_emb _ _).trans ?_
    funext a
    match a with
    | ⟨0, _⟩ => exact Fin.ext (Nat.div_add_mod _ 128)

section

variable {V : TData F d i E} {g : Buf (Elt F) (E.a6.view.loc (tl d i))} (f7 : Buf (Elt F) (E.a7.view.loc (tl d i)))
  (hg : ∀ x : Fin 512, E.a6.view.read (Elt F) g (ix1 x) = V.w x)

include hg in
/-- What part `s` of the list of words reads. -/
theorem off_read (s : Fin 4) (y : S128.Idx) :
    (E.offK s).view.read (Elt F) g y = V.w ⟨128 * s.val + (y 0).val, by have : (y 0).val < 128 := (y 0).isLt; omega⟩ := by
  rw [← hg]
  exact congrArg (E.a6.view.read (Elt F) g) (cut_emb s y)

include hg in
/-- A word read is an index of the table. -/
theorem off_inb (s : Fin 4) (y : S128.Idx) :
    BitVec.toNat (w := 32) ((E.offK s).view.read (Elt F) g y) < S102400.size gathers_S102400_S128.axis := by
  rw [off_read hg]; exact V.hb _

/-- What row `r` of the gather `s` brings. -/
abbrev rowOf (s : Fin 4) (r : Fin 128) : sProp 𝕄 :=
  gatherD (tl d i) E.tabK (E.dstK s) gathers_S102400_S128 (E.offK s) rfl (pieceOf V.q3 4 (by decide) s) fullShare V.f3 f7 g (by decide) (off_inb hg s) r

/-- What the entries of the four gathers bring, counted through. -/
def entry (t : Fin 512) : sProp 𝕄 := rowOf f7 hg ((finProdFinEquiv (m := 4) (n := 128)).symm t).1 ((finProdFinEquiv (m := 4) (n := 128)).symm t).2

instance entry_storable (t : Fin 512) : Storable (upEmb : UEmb _ 𝕄) (entry f7 hg t) := by
  unfold entry rowOf; exact gatherD_storable ..

theorem entry_eq (s : Fin 4) (r : Fin 128) (h : 128 * s.val + r.val < 512) : entry f7 hg ⟨128 * s.val + r.val, h⟩ = rowOf f7 hg s r := by
  have e : (finProdFinEquiv (m := 4) (n := 128)).symm ⟨128 * s.val + r.val, h⟩ = (s, r) := by
    rw [Equiv.symm_apply_eq]; exact Fin.ext (Nat.add_comm _ _)
  unfold entry
  rw [e]

/-- What the gather `s` needs. -/
def need (V : TData F d i E) (f7 : Buf (Elt F) (E.a7.view.loc (tl d i))) (g : Buf (Elt F) (E.a6.view.loc (tl d i))) (s : Fin 4) : sProp 𝕄 :=
  iprop((E.a3.view.loc (tl d i) ↦[E.tabK.view.set]{pieceOf V.q3 4 (by decide) s} V.f3)
    ∗ (E.a7.view.loc (tl d i) ↦[part E.a7 s]{fullShare} f7) ∗ (E.a6.view.loc (tl d i) ↦[part E.a6 s]{fullShare} g))

/-- What is held beside the gathers. -/
def Beside (V : TData F d i E) : sProp 𝕄 :=
  iprop(Ctx V ∗ (E.a3.view.loc (tl d i) ↦[Finset.univ \ E.tabK.view.set]{V.q3} V.f3)
    ∗ (∃ f, E.a4.view.loc (tl d i) ↦[(E.outK i).view.set]{fullShare} f) ∗ semVal (tl d i, .dma E.s10.sem) 0
    ∗ (E.a2.view.loc (tl d i) ↦{V.q2} V.f2) ∗ semVal (tl d i, .dma E.s9.sem) 0 ∗ ∃ f, E.a5.view.loc (tl d i) ↦{fullShare} f)

/-- The batch of entries with the first `n` started and `u` units waited for. -/
abbrev batch (n u : ℕ) : sProp 𝕄 := MixedBatch EC (tl d i) (.dma E.s8.sem) (none : HIx 1) (fun _ : Fin 512 => E.unit) (entry f7 hg) n u

/-- The first `s` gathers started, none waited for. -/
def Started (s : ℕ) : sProp 𝕄 := iprop(Beside V ∗ batch f7 hg (128 * s) 0 ∗ bigSep (pending (n := 4) s) (need V f7 g))

/-- All started, `s` waited for. -/
def Waited (s : ℕ) : sProp 𝕄 := iprop(Beside V ∗ batch f7 hg 512 (128 * s * E.unit))

variable {f7} {hg} {α : Type} {Q : α → sProp (MT nD τ sig (HIx 1) (Elt F) ℕ UU ℕ)}
variable {k : PUnit → Prog (TpuEff nD τ sig (Elt F) Λ₀ (.scVector ((i 0).castLE hcore0) ((i 1).castLE hsub0))) α}

theorem unit_pos : 0 < E.unit := sig.dmaCredit_pos _ _ _ _ _ (by decide)

/-- A gather is started. -/
theorem gather_start (s : Fin 4) {o : Fin 1 → ℕ} (ho : o = ![128 * s.val]) {inb : ∀ a, o a + S128.size a ≤ S512.size a} {hp} {w1} {w2} {w3} {w4}
    (hr : Started f7 hg (s.val + 1) ⊢ swp d i (k ⟨⟩) Q) :
    Started f7 hg s.val ⊢ swp d i (enqueueIndirectGather hp E.tabK (E.a7.slice (Rect.unit (s := S512) o S128.size inb) (fun _ => rfl)) gathers_S102400_S128
      (E.a6.slice (Rect.unit (s := S512) o S128.size inb) (fun _ => rfl)) rfl E.s8.sem w1 w2 w3 w4 >>= k) Q := by
  subst ho
  have e : bigSep (pending (n := 4) s.val) (need V f7 g) = iprop(need V f7 g s ∗ bigSep (pending (n := 4) (s.val + 1)) (need V f7 g)) := by
    rw [pending_succ s.isLt, BI.bigSep_insert (not_mem_pending_succ s.isLt)]; rfl
  unfold Started
  rw [e]
  unfold need
  iintro ⟨HB, Hbat, ⟨H3, H7, H6⟩, Hn⟩
  iapply (wp_gatherBatch (tl d i) E.tabK (E.dstK s) gathers_S102400_S128 (E.offK s) rfl (pieceOf V.q3 4 (by decide) s) fullShare V.f3 f7 g (by decide) (off_inb hg s)
    𝒱₀ none (k := k) (Q := Q) (n := 512) (j := 128 * s.val) (R := E.unit) (DD := entry f7 hg) (by have := s.isLt; change 128 * s.val + 128 ≤ 512; omega) (fun _ => rfl)
    (fun r => Entails.of_eq (entry_eq f7 hg s r _).symm)) $$ [H3 H7 H6 Hbat]
  · isplitl [H3]; · iexact H3
    isplitl [H7]; · iexact H7
    isplitl [H6]; · iexact H6
    iexact Hbat
  iintro Hbat
  iapply hr
  unfold Started need
  isplitl [HB]; · iexact HB
  isplitl [Hbat]; · iexact Hbat
  iexact Hn

theorem started_all : Started f7 hg 4 ⊢ Waited f7 hg 0 := by
  unfold Started Waited
  rw [Nat.mul_zero, Nat.zero_mul]
  iintro ⟨HB, Hbat, -⟩
  isplitl [HB]; · iexact HB
  iexact Hbat

/-- A gather but the last is waited for. -/
theorem gather_wait (s : ℕ) (hs : s < 3) {src : Memref sig .scVector .hbm S102400 .f32} {r : Rect S512} {h : r.shape = S128} {hst} {w1} {w2}
    (hr : Waited f7 hg (s + 1) ⊢ swp d i (k ⟨⟩) Q) :
    Waited f7 hg s ⊢ swp d i (waitIndirectGather E.s8.sem src (E.a7.slice r hst) w1 w2 >>= k) Q := by
  have hJ : (E.a7.slice r hst).view.dmaCredit = 128 * E.unit := by
    rw [← E.hcr, ← h]
  unfold Waited Beside Ctx SOwes
  iintro ⟨⟨⟨#Hmw, ⟨%W', %hW, HO⟩⟩, HB⟩, Hbat⟩
  iapply (wp_waitMixedBatchO EC 𝒱₀ (tl d i) none (sem := E.s8.sem) (srcw := src) (dstw := E.a7.slice r hst) (k := k) (Q := Q) (none : HIx 1) hJ
    (A := fun _ : Fin 512 => E.unit) (D := entry f7 hg) (j := 512) (u := 128 * s * E.unit) (by
      rw [sumTo_const _ le_rfl, ← Nat.add_mul]; exact Nat.mul_le_mul_right _ (by omega))) $$ [Hbat HO]
  · isplitl [Hbat]; · iexact Hbat
    isplitl [HO]; · iexact HO
    iapply (Transfers.MayWaits.elim (SemLoc.dma E.s8.sem)) $$ Hmw
  iintro ⟨Hbat, HO⟩
  ihave HO := (owes_insert hW (.dma E.s8.sem)) $$ HO
  iapply hr
  unfold Waited Beside Ctx
  rw [show 128 * (s + 1) * E.unit = 128 * s * E.unit + 128 * E.unit by rw [← Nat.add_mul, Nat.mul_succ]]
  isplitl [HB HO]
  · isplitl [HO]
    · isplitr; · iexact Hmw
      iexact HO
    iexact HB
  iexact Hbat

variable (f7) (hg)

/-- The contents the gather `s` leaves in its part of the result's buffer. -/
def got (s : Fin 4) : Buf (Elt F) (E.a7.view.loc (tl d i)) :=
  (E.dstK s).view.write (Elt F) f7
    (gatherPayload gathers_S102400_S128 (E.tabK.view.read (Elt F) V.f3) (rows ((E.offK s).view.read (Elt F) g) rfl (off_inb hg s))) Finset.univ

variable {f7} {hg}

/-- What a tile has gathered. -/
def Gathered (V : TData F d i E) : sProp 𝕄 :=
  iprop(Beside V ∗ (E.a3.view.loc (tl d i) ↦[E.tabK.view.set]{V.q3} V.f3) ∗ (∃ f, E.a6.view.loc (tl d i) ↦{fullShare} f) ∗ semVal (tl d i, .dma E.s8.sem) 0
    ∗ ∃ f, (E.a7.view.loc (tl d i) ↦{fullShare} f)
      ∗ ⌜∀ x : Fin 512, E.a7.view.read (Elt F) f (ix1 x) = E.a3.view.read (Elt F) V.f3 (ix1 ⟨(V.w x).toNat, V.hb x⟩)⌝)

/-- The entries of part `s` of the result's buffer once its gather has landed. -/
theorem got_read (s : Fin 4) (y : S128.Idx) {f : Buf (Elt F) (E.a7.view.loc (tl d i))}
    (hf : ∀ z ∈ part E.a7 s, f z = got f7 hg s z) :
    E.a7.view.read (Elt F) f ((TEnv.cut s).emb y) = E.a3.view.read (Elt F) V.f3
      (ix1 ⟨(V.w ⟨128 * s.val + (y 0).val, by have : (y 0).val < 128 := (y 0).isLt; omega⟩).toNat, V.hb _⟩) := by
  have h1 : E.a7.view.read (Elt F) f ((TEnv.cut s).emb y) = E.a7.view.read (Elt F) (got f7 hg s) ((TEnv.cut s).emb y) := by
    rw [View.read_apply, View.read_apply]
    exact congrArg _ (hf _ (Finset.mem_map.2 ⟨y, Finset.mem_univ _, rfl⟩))
  have h2 : E.a7.view.read (Elt F) (got f7 hg s) ((TEnv.cut s).emb y)
      = gatherPayload gathers_S102400_S128 (E.tabK.view.read (Elt F) V.f3) (rows ((E.offK s).view.read (Elt F) g) rfl (off_inb hg s)) y :=
    View.read_slice_write_emb (v := E.a7.view) (Val := Elt F) (TEnv.cut s) f7 _ (Finset.mem_univ _)
  rw [h1, h2]
  refine congrArg (E.a3.view.read (Elt F) V.f3) ?_
  funext a
  match a with
  | ⟨0, _⟩ =>
    refine Fin.ext ((ValueKit.rect_emb_unit_val _ _ _ _ _).trans ?_)
    have e : S128.rowMajor.symm (Fin.cast rfl (y gathers_S102400_S128.axis')) = y := by
      rw [Equiv.symm_apply_eq]
      exact Fin.ext (Shape.rowMajor_val_one y).symm
    have h3 := congrArg Fin.val (Shape.Gathers.idx_axis gathers_S102400_S128 (rows ((E.offK s).view.read (Elt F) g) rfl (off_inb hg s)) y)
    refine (Nat.zero_add _).trans (Eq.trans h3 ?_)
    change ((E.offK s).view.read (Elt F) g (S128.rowMajor.symm (Fin.cast rfl (y gathers_S102400_S128.axis')))).toNat = _
    rw [e, off_read hg]

/-- All that the entries of the four gathers bring. -/
theorem entries_join : bigSep Finset.univ (entry f7 hg) ⊢ iprop((E.a3.view.loc (tl d i) ↦[E.tabK.view.set]{V.q3} V.f3)
    ∗ (∃ f, E.a6.view.loc (tl d i) ↦{fullShare} f) ∗ ∃ f, (E.a7.view.loc (tl d i) ↦{fullShare} f)
      ∗ ⌜∀ x : Fin 512, E.a7.view.read (Elt F) f (ix1 x) = E.a3.view.read (Elt F) V.f3 (ix1 ⟨(V.w x).toNat, V.hb x⟩)⌝) := by
  have hent : bigSep Finset.univ (entry f7 hg) = bigSep Finset.univ fun s => bigSep Finset.univ fun r => rowOf f7 hg s r := by
    rw [BI.bigSep_univ_equiv (finProdFinEquiv (m := 4) (n := 128)), BI.bigSep_univ_prod]
    refine BI.bigSep_congr fun s _ => BI.bigSep_congr fun r _ => ?_
    unfold entry
    rw [Equiv.symm_apply_apply]
  rw [hent]
  have hrow : (bigSep Finset.univ fun s => bigSep Finset.univ fun r => rowOf f7 hg s r) ⊢
      bigSep Finset.univ fun s => iprop((E.a7.view.loc (tl d i) ↦[part E.a7 s]{fullShare} got f7 hg s)
      ∗ (E.a3.view.loc (tl d i) ↦[E.tabK.view.set]{pieceOf V.q3 4 (by decide) s} V.f3) ∗ (E.a6.view.loc (tl d i) ↦[part E.a6 s]{fullShare} g)) :=
    BI.bigSep_mono fun s _ => gatherD_join (tl d i) E.tabK (E.dstK s) gathers_S102400_S128 (E.offK s) rfl (pieceOf V.q3 4 (by decide) s) fullShare V.f3 f7 g (by decide) (off_inb hg s)
  refine BIBase.Entails.trans hrow ?_
  iintro H
  ihave H := bigSep_sep_out _ _ _ $$ H
  icases H with ⟨H7, H⟩
  ihave H := bigSep_sep_out _ _ _ $$ H
  icases H with ⟨H3, H6⟩
  isplitl [H3]; · iapply (Entails.of_eq (pointsTo_piecesOf (E.tabK.view.set) V.f3 (Nat.succ_pos 3) V.q3).symm) $$ H3
  isplitl [H6]
  · iexists g
    ihave H6 := (Entails.of_eq (pointsTo_biUnion (ℓ := E.a6.view.loc (tl d i)) (q := fullShare) (f := g) Finset.univ (part E.a6) (part_disjoint E.a6)).symm) $$ H6
    ihave H6 := (Entails.of_eq (congrArg (fun S => (E.a6.view.loc (tl d i) ↦[S]{fullShare} g : sProp 𝕄)) (part_cover E.h6))) $$ H6
    iexact H6
  · ihave H7 := (pointsTo_biUnion_join (ℓ := E.a7.view.loc (tl d i)) (q := fullShare) Finset.univ (part E.a7) (got f7 hg) f7 (part_disjoint E.a7)) $$ H7
    icases H7 with ⟨%f, %hf, H7⟩
    ihave H7 := (Entails.of_eq (congrArg (fun S => (E.a7.view.loc (tl d i) ↦[S]{fullShare} f : sProp 𝕄)) (part_cover E.h7))) $$ H7
    iexists f
    isplitl [H7]; · iexact H7
    ipureintro
    intro x
    have hx : ix1 x = (TEnv.cut ⟨x.val / 128, by omega⟩).emb (ix1 (⟨x.val % 128, by omega⟩ : Fin 128)) := by
      rw [cut_emb]
      funext a
      match a with
      | ⟨0, _⟩ => exact Fin.ext (Nat.div_add_mod _ 128).symm
    have h := got_read (hg := hg) (f7 := f7) ⟨x.val / 128, by omega⟩ (ix1 (⟨x.val % 128, by omega⟩ : Fin 128)) (hf _ (Finset.mem_univ _))
    refine (congrArg _ hx).trans (h.trans ?_)
    have e : (⟨128 * (x.val / 128) + x.val % 128, by omega⟩ : Fin 512) = x := Fin.ext (Nat.div_add_mod _ 128)
    exact congrArg (fun z : Fin 512 => E.a3.view.read (Elt F) V.f3 (ix1 ⟨(V.w z).toNat, V.hb z⟩)) e

/-- The last gather is waited for. -/
theorem gather_last {src : Memref sig .scVector .hbm S102400 .f32} {r : Rect S512} {h : r.shape = S128} {hst} {w1} {w2}
    (hr : Gathered V ⊢ swp d i (k ⟨⟩) Q) :
    Waited f7 hg 3 ⊢ swp d i (waitIndirectGather E.s8.sem src (E.a7.slice r hst) w1 w2 >>= k) Q := by
  have hJ : (E.a7.slice r hst).view.dmaCredit = 128 * E.unit := by
    rw [← E.hcr, ← h]
  unfold Waited Beside Ctx SOwes
  iintro ⟨⟨⟨#Hmw, ⟨%W', %hW, HO⟩⟩, HB⟩, Hbat⟩
  iapply (wp_waitMixedBatchAllO EC 𝒱₀ (tl d i) none (sem := E.s8.sem) (srcw := src) (dstw := E.a7.slice r hst) (k := k) (Q := Q) (none : HIx 1) hJ
    (A := fun _ : Fin 512 => E.unit) (fun _ => unit_pos) (D := entry f7 hg) (u := 128 * 3 * E.unit) (by
      rw [sumTo_const _ le_rfl]; omega)) $$ [Hbat HO]
  · isplitl [Hbat]; · iexact Hbat
    isplitl [HO]; · iexact HO
    iapply (Transfers.MayWaits.elim (SemLoc.dma E.s8.sem)) $$ Hmw
  iintro ⟨HD, Hs, HO⟩
  ihave HO := (owes_insert hW (.dma E.s8.sem)) $$ HO
  ihave HD := entries_join $$ HD
  icases HD with ⟨H3, H6, H7⟩
  iapply hr
  unfold Gathered Beside Ctx
  isplitl [HB HO]
  · isplitl [HO]
    · isplitr; · iexact Hmw
      iexact HO
    iexact HB
  isplitl [H3]; · iexact H3
  isplitl [H6]; · iexact H6
  isplitl [Hs]; · iexact Hs
  iexact H7

end

end Cert.Proof

end
-- ==== Proof.ScEnds.lean ====
/-
  The two ends of the gathers of a tile: the words written give what the four gathers need, and the copy of what they
  brought leaves the tile's block of the result.
-/
module

public import proofs.«01_k».proof.Proof.ScGathers

@[expose] public section

noncomputable section

namespace Cert.Proof

open Cert.KernelIdeal Cert.KernelIdeal.Gen
open Idealize.ShloMosaic Idealize.ShloMosaic.Transfers
open Idealize.ShloMosaic.SparseCore (rows gatherPayload enqueueIndirectGather waitIndirectGather)
open Idealize.ShloMosaic.SparseCore.Cfg (HIx)
open Idealize.SL Idealize.SL.RA Idealize.SL.BI Idealize.SL.BI.Laws Idealize.SL.ProofMode
open Idealize.SL.BI.BIBase
open Idealize.SL.Sem
open Idealize.ShloMosaic.ValueIdx

variable {F : FTy → Type} [FloatOps F]

local notation "𝕄" => MT nD τ sig (HIx 1) (Elt F) ℕ UU ℕ

variable {d : Dev nD} {i : grid0.Coords} {E : TEnv} {V : TData F d i E}
variable {α : Type} {Q : α → sProp (MT nD τ sig (HIx 1) (Elt F) ℕ UU ℕ)}
variable {k : PUnit → Prog (TpuEff nD τ sig (Elt F) Λ₀ (.scVector ((i 0).castLE hcore0) ((i 1).castLE hsub0))) α}

/-- A list of 512 held whole is held in its four parts. -/
theorem split_parts {e : EltTy} {m : Memref sig .scVector .vmem S512 e} (hm : m.IsWhole) (f : Buf (Elt F) (m.view.loc (tl d i))) :
    (m.view.loc (tl d i) ↦{fullShare} f : sProp 𝕄) ⊢ bigSep Finset.univ fun s => m.view.loc (tl d i) ↦[part m s]{fullShare} f :=
  (Entails.of_eq (congrArg (fun S => (m.view.loc (tl d i) ↦[S]{fullShare} f : sProp 𝕄)) (part_cover hm).symm)).trans
    (Entails.of_eq (pointsTo_biUnion (ℓ := m.view.loc (tl d i)) (q := fullShare) (f := f) Finset.univ (part m) (part_disjoint m)))

/-- All words written, the gathers can start. -/
theorem enter {f5 : Buf (Elt F) (E.a5.view.loc (tl d i))} (h5 : E.a5.view.read (Elt F) f5 = (E.inK i).view.read (Elt F) V.f2)
    {p : Prog (TpuEff nD τ sig (Elt F) Λ₀ (.scVector ((i 0).castLE hcore0) ((i 1).castLE hsub0))) α}
    (hr : ∀ (g : Buf (Elt F) (E.a6.view.loc (tl d i))) (f7 : Buf (Elt F) (E.a7.view.loc (tl d i)))
      (hg : ∀ x : Fin 512, E.a6.view.read (Elt F) g (ix1 x) = V.w x), Started f7 hg 0 ⊢ swp d i p Q) :
    Words d i E.a5 E.a6 f5 (Rest V) 512 ⊢ swp d i p Q := by
  unfold Words Rest Later
  iintro ⟨⟨HC, ⟨H3, H4, ⟨%f7, H7⟩, Hs8, Hs10⟩, H2, Hs9⟩, H5, ⟨%g, H6, %hg⟩⟩
  have hg' : ∀ x : Fin 512, E.a6.view.read (Elt F) g (ix1 x) = V.w x := fun x => by rw [hg x x.isLt, h5]
  ihave H3 := (pointsTo_split_subset (q := V.q3) (f := V.f3) (S := Finset.univ) (Finset.subset_univ E.tabK.view.set)).1 $$ H3
  icases H3 with ⟨H3, H3r⟩
  ihave H3 := (Entails.of_eq (pointsTo_piecesOf (E.tabK.view.set) V.f3 (Nat.succ_pos 3) V.q3)) $$ H3
  ihave H6 := (split_parts E.h6 g) $$ H6
  ihave H7 := (split_parts E.h7 f7) $$ H7
  iapply (fupd_wp frame (wpE defs₀ 𝒱₀ (tl d i) none) Set.univ p Q)
  imod (mixedBatch_alloc' EC (tl d i) (none : HIx 1) (fun _ : Fin 512 => E.unit) (entry f7 hg') (sm := .dma E.s8.sem) (E := Set.univ)) $$ Hs8 with Hbat
  imodintro
  iapply (hr g f7 hg')
  unfold Started Beside
  isplitl [HC H3r H4 Hs10 H2 Hs9 H5]
  · isplitl [HC]; · iexact HC
    isplitl [H3r]; · iexact H3r
    isplitl [H4]; · iexact H4
    isplitl [Hs10]; · iexact Hs10
    isplitl [H2]; · iexact H2
    isplitl [Hs9]; · iexact Hs9
    iexists f5; iexact H5
  isplitl [Hbat]; · iexact Hbat
  rw [show (pending 0 : Finset (Fin 4)) = Finset.univ from pending_zero]
  unfold need
  iapply (bigSep_sep_in _ _ _)
  isplitl [H3]; · iexact H3
  iapply (bigSep_sep_in _ _ _)
  isplitl [H7]; · iexact H7
  iexact H6

/-- What the tile has gathered is on its way to its block of the result. -/
def Sending (V : TData F d i E) : sProp 𝕄 :=
  iprop(Ctx V ∗ (E.a3.view.loc (tl d i) ↦{V.q3} V.f3) ∗ (E.a2.view.loc (tl d i) ↦{V.q2} V.f2) ∗ (∃ f, E.a5.view.loc (tl d i) ↦{fullShare} f)
    ∗ (∃ f, E.a6.view.loc (tl d i) ↦{fullShare} f) ∗ semVal (tl d i, .dma E.s8.sem) 0 ∗ semVal (tl d i, .dma E.s9.sem) 0
    ∗ ∃ f f4, ⌜∀ x : Fin 512, E.a7.view.read (Elt F) f (ix1 x) = E.a3.view.read (Elt F) V.f3 (ix1 ⟨(V.w x).toNat, V.hb x⟩)⌝
      ∗ Flight EC (tl d i) (.dma E.s10.sem) (none : HIx 1) (E.outK i).view.dmaCredit
        iprop((E.a4.view.loc (tl d i) ↦[(E.outK i).view.set]{fullShare} ((E.outK i).view.write (Elt F) f4 (E.a7.view.read (Elt F) f) Finset.univ))
          ∗ (E.a7.view.loc (tl d i) ↦{fullShare} f)))

/-- The tile done. -/
def Done (V : TData F d i E) : sProp 𝕄 :=
  iprop(Ctx V ∗ (E.a3.view.loc (tl d i) ↦{V.q3} V.f3) ∗ (E.a2.view.loc (tl d i) ↦{V.q2} V.f2) ∗ (∃ f, E.a5.view.loc (tl d i) ↦{fullShare} f)
    ∗ (∃ f, E.a6.view.loc (tl d i) ↦{fullShare} f) ∗ (∃ f, E.a7.view.loc (tl d i) ↦{fullShare} f)
    ∗ semVal (tl d i, .dma E.s8.sem) 0 ∗ semVal (tl d i, .dma E.s9.sem) 0 ∗ semVal (tl d i, .dma E.s10.sem) 0
    ∗ ∃ f, (E.a4.view.loc (tl d i) ↦[(E.outK i).view.set]{fullShare} f)
      ∗ ⌜∀ x : Fin 512, (E.outK i).view.read (Elt F) f (ix1 x) = E.a3.view.read (Elt F) V.f3 (ix1 ⟨(V.w x).toNat, V.hb x⟩)⌝)

/-- The copy of what was gathered starts. -/
theorem out_start {w1} {w2} {w3} (hr : Sending V ⊢ swp d i (k ⟨⟩) Q) :
    Gathered V ⊢ swp d i (Prog.lift (.enqueueDma E.a7 (.here (E.outK i)) (.dma E.s10.sem) w1 w2 w3) >>= k) Q := by
  have h7 : E.a7.view.set = Finset.univ := E.h7.set_eq_univ
  unfold Gathered Beside
  iintro ⟨⟨HC, H3r, ⟨%f4, H4⟩, Hs10, H2, Hs9, H5⟩, H3, H6, Hs8, ⟨%f, H7, %hf⟩⟩
  ihave H3 := (pointsTo_split_subset (q := V.q3) (f := V.f3) (S := Finset.univ) (Finset.subset_univ E.tabK.view.set)).2 $$ [H3 H3r]
  · isplitl [H3] <;> iassumption
  ihave H7 := (Entails.of_eq (congrArg (fun S => (E.a7.view.loc (tl d i) ↦[S]{fullShare} f : sProp 𝕄)) h7.symm)) $$ H7
  iapply (Transfers.wp_dmaLocal EC 𝒱₀ (tl d i) none (src := E.a7) (dst := E.outK i) (sm := .dma E.s10.sem) (via := .same) (k := k) (Q := Q) (q := fullShare) (fs := f)
    (Sd := (E.outK i).view.set) (fd := f4)
    (none : HIx 1) (E.outK i).view.dmaCredit rfl (View.dmaCredit_pos _ (by decide)) (Finset.Subset.refl _)) $$ [H7 H4 Hs10]
  · isplitl [H7]; · iexact H7
    isplitl [H4]; · iexact H4
    iexact Hs10
  iintro Hf
  iapply hr
  unfold Sending
  isplitl [HC]; · iexact HC
  isplitl [H3]; · iexact H3
  isplitl [H2]; · iexact H2
  isplitl [H5]; · iexact H5
  isplitl [H6]; · iexact H6
  isplitl [Hs8]; · iexact Hs8
  isplitl [Hs9]; · iexact Hs9
  iexists f, f4
  isplitr; · ipureintro; exact hf
  rw [h7]
  iexact Hf

/-- The copy is waited for: the tile is done. -/
theorem out_wait {src : Memref sig .scVector .vmem S512 .f32} {w1} {w2} (hr : Done V ⊢ swp d i (k ⟨⟩) Q) :
    Sending V ⊢ swp d i (Prog.lift (.waitDma2 E.s10.sem src (E.outK i) w1 w2) >>= k) Q := by
  unfold Sending Ctx SOwes
  iintro ⟨⟨#Hmw, ⟨%W', %hW, HO⟩⟩, H3, H2, H5, H6, Hs8, Hs9, ⟨%f, %f4, %hf, Hf⟩⟩
  iapply (Transfers.wp_waitLocalO EC 𝒱₀ (tl d i) none (sem := E.s10.sem) (srcw := src) (dstw := E.outK i) (k := k) (Q := Q) (none : HIx 1) (rfl : (E.outK i).view.dmaCredit = _)) $$ [Hf HO]
  · isplitl [Hf]; · iexact Hf
    isplitl [HO]; · iexact HO
    iapply (Transfers.MayWaits.elim (SemLoc.dma E.s10.sem)) $$ Hmw
  iintro ⟨⟨H4, H7⟩, Hs10, HO⟩
  ihave HO := (owes_insert hW (.dma E.s10.sem)) $$ HO
  iapply hr
  unfold Done Ctx
  isplitl [HO]
  · isplitr; · iexact Hmw
    iexact HO
  isplitl [H3]; · iexact H3
  isplitl [H2]; · iexact H2
  isplitl [H5]; · iexact H5
  isplitl [H6]; · iexact H6
  isplitl [H7]; · iexists f; iexact H7
  isplitl [Hs8]; · iexact Hs8
  isplitl [Hs9]; · iexact Hs9
  isplitl [Hs10]; · iexact Hs10
  iexists _
  isplitl [H4]; · iexact H4
  ipureintro
  intro x
  rw [← hf x, View.read_write_univ]

end Cert.Proof

end
-- ==== Proof.ScWalk.lean ====
/-
  The walk through a tile's program: the fetch, thirty-two steps of sixteen words each, the four gathers and the copy out.
-/
module

public import proofs.«01_k».proof.Proof.ScEnds

@[expose] public section

noncomputable section

namespace Cert.Proof

open Cert.KernelIdeal Cert.KernelIdeal.Gen
open Idealize.ShloMosaic Idealize.ShloMosaic.Transfers
open Idealize.ShloMosaic.SparseCore.Cfg (HIx)
open Idealize.SL Idealize.SL.RA Idealize.SL.BI Idealize.SL.BI.Laws Idealize.SL.ProofMode
open Idealize.SL.BI.BIBase
open Idealize.SL.Sem
open Idealize.ShloMosaic.ValueIdx

variable {F : FTy → Type} [FloatOps F]

/-- The indexed loads of sixteen lanes from `c` are in the list of pairs. -/
theorem chk_of {c : BitVec 32} (hc : c.toNat % 16 = 0 ∧ c.toNat < 512) :
    (∀ a x, ((![lanes c, broadcast S16 0#32] : Fin 2 → IVec S16 32) a x).toNat < S512x2.size a)
      ∧ (∀ a x, ((![lanes c, broadcast S16 1#32] : Fin 2 → IVec S16 32) a x).toNat < S512x2.size a) := by
  have e : c = BitVec.ofNat 32 (16 * (c.toNat / 16)) := by
    rw [show 16 * (c.toNat / 16) = c.toNat by omega, BitVec.ofNat_toNat, BitVec.setWidth_eq]
  exact ⟨lanes_inb (by omega) e (by decide), lanes_inb (by omega) e (by decide)⟩

variable {d : Dev nD} {i : grid0.Coords} {E : TEnv} {V : TData F d i E}
variable {Q : PUnit → sProp (MT nD τ sig (HIx 1) (Elt F) ℕ UU ℕ)}

set_option maxHeartbeats 1000000 in
/-- A tile's program from start to end. -/
theorem tile_walk (hQ : Done V ⊢ Q ⟨⟩) :
    In0 V ⊢ swp d i (cc0_k i E.a2 E.h2 E.a3 E.h3 E.a4 E.h4 E.a5 E.h5 E.a6 E.h6 E.a7 E.h7 E.s8 E.s9 E.s10) Q := by
  delta cc0_k
  refine words_bind ?_
  delta k0_part10
  refine words_bind ?_
  delta k0_part1
  refine words_pure ?_
  refine words_bind ?_
  delta k0_part2
  refine in_start ?_
  refine in_wait fun f5 h5 => ?_
  refine words_assume (chk_of (by decide)) ?_
  refine words_gather ?_
  refine words_gather ?_
  refine words_load fun _ => ?_
  refine words_pure ?_
  refine words_bind ?_
  delta k0_part3
  refine words_store 0 (by decide) rfl (fun x y hy => lanes_word (by decide) rfl _ x y hy) ?_
  refine words_assume (chk_of (by decide)) ?_
  iterate 4
    refine words_gather ?_
    refine words_gather ?_
    refine words_load fun _ => ?_
    refine words_store _ (by decide) rfl (fun x y hy => lanes_word (by decide) rfl _ x y hy) ?_
    refine words_assume (chk_of (by decide)) ?_
  refine words_gather ?_
  refine words_gather ?_
  refine words_pure ?_
  refine words_bind ?_
  delta k0_part4
  refine words_load fun _ => ?_
  refine words_store _ (by decide) rfl (fun x y hy => lanes_word (by decide) rfl _ x y hy) ?_
  refine words_assume (chk_of (by decide)) ?_
  iterate 3
    refine words_gather ?_
    refine words_gather ?_
    refine words_load fun _ => ?_
    refine words_store _ (by decide) rfl (fun x y hy => lanes_word (by decide) rfl _ x y hy) ?_
    refine words_assume (chk_of (by decide)) ?_
  refine words_gather ?_
  refine words_gather ?_
  refine words_load fun _ => ?_
  refine words_store _ (by decide) rfl (fun x y hy => lanes_word (by decide) rfl _ x y hy) ?_
  refine words_pure ?_
  refine words_bind ?_
  delta k0_part5
  refine words_assume (chk_of (by decide)) ?_
  iterate 4
    refine words_gather ?_
    refine words_gather ?_
    refine words_load fun _ => ?_
    refine words_store _ (by decide) rfl (fun x y hy => lanes_word (by decide) rfl _ x y hy) ?_
    refine words_assume (chk_of (by decide)) ?_
  refine words_gather ?_
  refine words_gather ?_
  refine words_pure ?_
  refine words_bind ?_
  delta k0_part6
  refine words_load fun _ => ?_
  refine words_store _ (by decide) rfl (fun x y hy => lanes_word (by decide) rfl _ x y hy) ?_
  refine words_assume (chk_of (by decide)) ?_
  iterate 4
    refine words_gather ?_
    refine words_gather ?_
    refine words_load fun _ => ?_
    refine words_store _ (by decide) rfl (fun x y hy => lanes_word (by decide) rfl _ x y hy) ?_
    refine words_assume (chk_of (by decide)) ?_
  refine words_gather ?_
  refine words_pure ?_
  refine words_bind ?_
  delta k0_part7
  refine words_gather ?_
  refine words_load fun _ => ?_
  refine words_store _ (by decide) rfl (fun x y hy => lanes_word (by decide) rfl _ x y hy) ?_
  refine words_assume (chk_of (by decide)) ?_
  iterate 3
    refine words_gather ?_
    refine words_gather ?_
    refine words_load fun _ => ?_
    refine words_store _ (by decide) rfl (fun x y hy => lanes_word (by decide) rfl _ x y hy) ?_
    refine words_assume (chk_of (by decide)) ?_
  refine words_gather ?_
  refine words_gather ?_
  refine words_load fun _ => ?_
  refine words_store _ (by decide) rfl (fun x y hy => lanes_word (by decide) rfl _ x y hy) ?_
  refine words_pure ?_
  refine words_bind ?_
  delta k0_part8
  refine words_assume (chk_of (by decide)) ?_
  iterate 4
    refine words_gather ?_
    refine words_gather ?_
    refine words_load fun _ => ?_
    refine words_store _ (by decide) rfl (fun x y hy => lanes_word (by decide) rfl _ x y hy) ?_
    refine words_assume (chk_of (by decide)) ?_
  refine words_gather ?_
  refine words_gather ?_
  refine words_pure ?_
  refine words_bind ?_
  delta k0_part9
  refine words_load fun _ => ?_
  refine words_store _ (by decide) rfl (fun x y hy => lanes_word (by decide) rfl _ x y hy) ?_
  refine words_assume (chk_of (by decide)) ?_
  iterate 2
    refine words_gather ?_
    refine words_gather ?_
    refine words_load fun _ => ?_
    refine words_store _ (by decide) rfl (fun x y hy => lanes_word (by decide) rfl _ x y hy) ?_
    refine words_assume (chk_of (by decide)) ?_
  refine words_gather ?_
  refine words_gather ?_
  refine words_load fun _ => ?_
  refine words_store _ (by decide) rfl (fun x y hy => lanes_word (by decide) rfl _ x y hy) ?_
  refine enter h5 fun g f7 hg => ?_
  refine gather_start 0 rfl ?_
  refine gather_start 1 rfl ?_
  refine words_pure ?_
  refine gather_start 2 rfl ?_
  refine gather_start 3 rfl ?_
  refine started_all.trans ?_
  refine gather_wait 0 (by decide) (h := rfl) ?_
  refine gather_wait 1 (by decide) (h := rfl) ?_
  refine gather_wait 2 (by decide) (h := rfl) ?_
  refine gather_last (h := rfl) ?_
  refine out_start ?_
  refine out_wait ?_
  refine words_pure ?_
  exact words_pure hQ

end Cert.Proof

end
-- ==== Proof.ScGeom.lean ====
/-
  Where the tile of a grid point reads and writes: its block of pairs, and its block of the result.
-/
module

public import proofs.«01_k».proof.Proof.ScWalk

@[expose] public section

noncomputable section

namespace Cert.Proof

open Cert.KernelIdeal Cert.KernelIdeal.Gen
open Idealize.ShloMosaic Idealize.ShloMosaic.Transfers
open Idealize.ShloMosaic.ValueIdx

variable {F : FTy → Type} [FloatOps F]

/-- The tile of core `c` and subcore `s`. -/
def coordsV (c : Fin (grid0.bound 0)) (s : Fin (grid0.bound 1)) : grid0.Coords :=
  fun | 0 => c | 1 => s | ⟨_ + 2, h⟩ => absurd h (Nat.not_lt.2 (Nat.le_add_left _ _))

/-- The number of a tile: twice its subcore plus its core. -/
abbrev wid (i : grid0.Coords) : ℕ := 2 * (i 1).val + (i 0).val

theorem wid_lt (i : grid0.Coords) : wid i < 32 := by
  have h1 : (i 1).val < 16 := (i 1).isLt
  have h0 : (i 0).val < 2 := (i 0).isLt
  unfold wid; omega

theorem off1_eq : ∀ i : grid0.Coords, k0_off1 i = ![wid i / 4, wid i % 4 * 512, 0] := by decide +kernel
theorem off2_eq : ∀ i : grid0.Coords, k0_off2 i = ![wid i / 4, wid i % 4 / 2, 0, wid i % 2 * 512] := by decide +kernel

/-- The memrefs and semaphores the tiles run on. -/
def scE : TEnv where
  a2 := Memref.whole main_arg2_scv
  h2 := Memref.isWhole_whole _
  a3 := Memref.whole main_v0_scv
  h3 := Memref.isWhole_whole _
  a4 := Memref.whole main_v1_scv
  h4 := Memref.isWhole_whole _
  a5 := Memref.whole cc0_scratch0
  h5 := Memref.isWhole_whole _
  a6 := Memref.whole cc0_scratch1
  h6 := Memref.isWhole_whole _
  a7 := Memref.whole cc0_scratch2
  h7 := Memref.isWhole_whole _
  s8 := cc0_scratch3
  s9 := cc0_scratch4
  s10 := cc0_scoped0
  hcr := by decide

/-- Pair `x` of the tile's block, component `b`. -/
theorem inK_emb (i : grid0.Coords) (x : Fin 512) (b : Fin 2) :
    (scE.inK i).view.emb (ix2 x b) = (ix3 (⟨wid i / 4, by have := wid_lt i; omega⟩ : Fin 8) (⟨wid i % 4 * 512 + x.val, by omega⟩ : Fin 2048) b : S8x2048x2.Idx) := by
  have hre : (Shape.reshapeEquiv squeezes_S1x512x2_S512x2.numel_eq : S512x2.Idx → S1x512x2.Idx) (ix2 x b)
      = ix3 (⟨0, Nat.one_pos⟩ : Fin 1) x b := reshapeEquiv_ix2_1ab (a := 512) (b := 2) _ _ _
  refine (congrArg (Rect.unit (s := S8x2048x2) (k0_off1 i) S1x512x2.size (k0_off1_inb i)).emb hre).trans ?_
  funext a
  refine Fin.ext ((ValueKit.rect_emb_unit_val _ _ _ _ _).trans ?_)
  refine (congrArg (· + _) (congrFun (off1_eq i) a)).trans ?_
  match a with
  | ⟨0, _⟩ => rfl
  | ⟨1, _⟩ => rfl
  | ⟨2, _⟩ => exact Nat.zero_add _

/-- Entry `x` of the tile's block of the result. -/
theorem outK_emb (i : grid0.Coords) (x : Fin 512) :
    (scE.outK i).view.emb (ValueIdx.ix1 x) = (ix4 (⟨wid i / 4, by have := wid_lt i; omega⟩ : Fin 8) (⟨wid i % 4 / 2, by omega⟩ : Fin 2) (0 : Fin 1)
      (⟨wid i % 2 * 512 + x.val, by omega⟩ : Fin 1024) : S8x2x1x1024.Idx) := by
  have hre : (Shape.reshapeEquiv squeezes_S1x1x1x512_S512.numel_eq : S512.Idx → S1x1x1x512.Idx) (ValueIdx.ix1 x)
      = ix4 (0 : Fin 1) (0 : Fin 1) (0 : Fin 1) x :=
    Shape.reshapeEquiv_eq_of_rowMajor _ (by rw [Shape.rowMajor_val_four, Shape.rowMajor_val_one]; simp [ix4, ValueIdx.ix1])
  refine (congrArg (Rect.unit (s := S8x2x1x1024) (k0_off2 i) S1x1x1x512.size (k0_off2_inb i)).emb hre).trans ?_
  funext a
  refine Fin.ext ((ValueKit.rect_emb_unit_val _ _ _ _ _).trans ?_)
  refine (congrArg (· + _) (congrFun (off2_eq i) a)).trans ?_
  match a with
  | ⟨0, _⟩ => rfl
  | ⟨1, _⟩ => rfl
  | ⟨2, _⟩ => rfl
  | ⟨3, _⟩ => rfl

/-- The number of the tile an entry of the result belongs to. -/
abbrev tileOf (y : S8x2x1x1024.Idx) : ℕ := (y 0).val * 4 + (y 1).val * 2 + (y 3).val / 512

/-- The entries of the result that belong to tile number `n`. -/
def tileSet (n : ℕ) : Finset S8x2x1x1024.Idx := Finset.univ.filter fun y => tileOf y = n

theorem mem_tileSet {n : ℕ} {y : S8x2x1x1024.Idx} : y ∈ tileSet n ↔ tileOf y = n := by simp [tileSet]

/-- The entries of the result that belong to the tiles of core `c`. -/
def coreSet (c : ℕ) : Finset S8x2x1x1024.Idx := Finset.univ.filter fun y => tileOf y % 2 = c

theorem mem_coreSet {n : ℕ} {y : S8x2x1x1024.Idx} : y ∈ coreSet n ↔ tileOf y % 2 = n := by simp [coreSet]

/-- An entry is in the tile's block of the result exactly when it belongs to the tile. -/
theorem mem_outK (i : grid0.Coords) (y : S8x2x1x1024.Idx) : y ∈ (scE.outK i).view.set ↔ tileOf y = wid i := by
  have hw := wid_lt i
  constructor
  · intro hy
    obtain ⟨x, -, hx⟩ := Finset.mem_map.1 hy
    have hx : ((scE.outK i).view.emb x : S8x2x1x1024.Idx) = y := hx
    have h512 : (x 0).val < 512 := (x 0).isLt
    have he : ((scE.outK i).view.emb x : S8x2x1x1024.Idx) = _ :=
      (congrArg (scE.outK i).view.emb (eq_ix1 (n := 512) x)).trans (outK_emb i (x 0))
    rw [← hx, he]
    change wid i / 4 * 4 + wid i % 4 / 2 * 2 + (wid i % 2 * 512 + (x 0).val) / 512 = wid i
    omega
  · intro hy
    have h0 : (y 0).val < 8 := (y 0).isLt
    have h1 : (y 1).val < 2 := (y 1).isLt
    have h2 : (y 2).val < 1 := (y 2).isLt
    have h3 : (y 3).val < 1024 := (y 3).isLt
    refine Finset.mem_map.2 ⟨ValueIdx.ix1 (⟨(y 3).val % 512, by omega⟩ : Fin 512), Finset.mem_univ _, ?_⟩
    refine (outK_emb i _).trans ?_
    unfold tileOf at hy
    funext a
    match a with
    | ⟨0, _⟩ => refine Fin.ext ?_; change wid i / 4 = (y 0).val; omega
    | ⟨1, _⟩ => refine Fin.ext ?_; change wid i % 4 / 2 = (y 1).val; omega
    | ⟨2, _⟩ => refine Fin.ext ?_; change 0 = (y 2).val; omega
    | ⟨3, _⟩ => refine Fin.ext ?_; change wid i % 2 * 512 + (y 3).val % 512 = (y 3).val; omega

/-- The tile's block of the result is the entries that belong to it. -/
theorem outK_set (i : grid0.Coords) : (scE.outK i).view.set = tileSet (wid i) :=
  Finset.ext fun y => (mem_outK i y).trans mem_tileSet.symm

/-! ## What the call leaves -/

/-- The pair an entry of the result is made from, component `b`. -/
abbrev pairAt (y : S8x2x1x1024.Idx) (b : Fin 2) : S8x2048x2.Idx :=
  ix3 (y 0 : Fin 8) (⟨1024 * (y 1).val + (y 3).val, by
    have h1 : (y 1).val < 2 := (y 1).isLt
    have h3 : (y 3).val < 1024 := (y 3).isLt
    omega⟩ : Fin 2048) b

/-- The result: the table at 320 times the first of the pair plus the second. -/
def gathered (fv : S8x2048x2.Idx → BitVec 32) (ft : S102400.Idx → Elt F .f32) : S8x2x1x1024.Idx → Elt F .f32 :=
  fun y => ft (ValueIdx.ix1 (Fin.ofNat 102400 (fv (pairAt y 0) * 320#32 + fv (pairAt y 1)).toNat))

/-- The words of pairs below 320 name entries of the table. -/
theorem word_lt {a b : BitVec 32} (ha : a.toNat < 320) (hb : b.toNat < 320) : (a * 320#32 + b).toNat < 102400 := by
  rw [BitVec.toNat_add, BitVec.toNat_mul]
  rw [show (320#32 : BitVec 32).toNat = 320 from rfl, Nat.mod_eq_of_lt (a := a.toNat * 320) (by omega), Nat.mod_eq_of_lt (by omega)]
  omega

end Cert.Proof

end
-- ==== Proof.ScTile.lean ====
/-
  What the SparseCore call's handshakes carry, and one tile's task between them.
-/
module

public import Idealize.ShloMosaic.Lib.SparseCore.Quiescent
public import Idealize.ShloMosaic.Lib.SparseCore.Ops
public import proofs.«01_k».proof.Proof.ScGeom

@[expose] public section

noncomputable section

namespace Cert.Proof

open Cert.KernelIdeal Cert.KernelIdeal.Gen
open Idealize.ShloMosaic Idealize.ShloMosaic.Transfers
open Idealize.ShloMosaic.SparseCore.Cfg (HIx Pay tileRest ownBufs ownSems0 ownCells ownRefs mem_ownCells mem_ownRefs)
open Idealize.SL Idealize.SL.RA Idealize.SL.BI Idealize.SL.BI.Laws Idealize.SL.ProofMode
open Idealize.SL.BI.BIBase
open Idealize.SL.Sem
open Idealize.ShloMosaic.ValueIdx

variable {F : FTy → Type} [FloatOps F]

local notation "𝕄" => MT nD τ sig (HIx 1) (Elt F) ℕ UU ℕ

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide, fun _ => rfl⟩

theorem nSub_zero : (K (F := F)).nSub 0 = 16 := rfl
theorem nCore_zero : (K (F := F)).nCore 0 = 2 := rfl

/-! ## The buffers the call works on -/

abbrev xLoc (d : Dev nD) : Loc nD τ sig := (SparseCore.T d).loc main_arg0
abbrev lLoc (d : Dev nD) : Loc nD τ sig := (SparseCore.T d).loc main_arg1
abbrev vLoc (d : Dev nD) : Loc nD τ sig := (SparseCore.T d).loc main_arg2
abbrev wLoc (d : Dev nD) : Loc nD τ sig := (SparseCore.T d).loc main_arg3
abbrev tLoc (d : Dev nD) : Loc nD τ sig := (SparseCore.T d).loc main_v0
abbrev gLoc (d : Dev nD) : Loc nD τ sig := (SparseCore.T d).loc main_v1
abbrev oLoc (d : Dev nD) : Loc nD τ sig := (SparseCore.T d).loc main_v2

variable (m : (ℓ : Loc nD τ sig) → Buf (Elt F) ℓ)

/-- The pairs of indices. -/
abbrev pairs (d : Dev nD) : S8x2048x2.Idx → BitVec 32 := m (vLoc d)

/-- The table, flat. -/
def flat (d : Dev nD) : Buf (Elt F) (tLoc d) :=
  fun i => shapeCast S102400 (m (wLoc d) : S320x320.Idx → Elt F .f32) shapeCasts_S320x320_S102400 i

/-- What the call leaves in its result. -/
abbrev gath (d : Dev nD) : Buf (Elt F) (gLoc d) := gathered (F := F) (pairs m d) (flat m d)

/-- What the proof asks of the launch memory: pairs below 320 and lengths below 2048. -/
structure PreOK : Prop where
  v : ∀ (d : Dev nD) (y : S8x2048x2.Idx), (pairs m d y).toNat < 320
  l : ∀ (d : Dev nD) (y : S8.Idx), ((m (lLoc d) : S8.Idx → BitVec 32) y).toNat < 2048

/-- A core's share of what it reads. -/
abbrev qC (c : Fin 2) : PosShare TreeShare := Idealize.ShloMosaic.pieceOf fullShare 2 (Nat.succ_pos 1) c
/-- A tile's share of what it reads. -/
abbrev qT (c : Fin 2) (j : Fin 16) : PosShare TreeShare := Idealize.ShloMosaic.pieceOf (qC c) 16 (Nat.succ_pos 15) j

/-- What core `c` is given: a share of the pairs and of the table, and its entries of the result at some contents. -/
def stC (d : Dev nD) (c : Fin 2) : sProp 𝕄 :=
  iprop((vLoc d ↦{qC c} m (vLoc d)) ∗ (tLoc d ↦{qC c} flat m d) ∗ ∃ f, gLoc d ↦[coreSet c.val]{fullShare} f)
/-- What it hands back: its entries gathered. -/
def dnC (d : Dev nD) (c : Fin 2) : sProp 𝕄 :=
  iprop((vLoc d ↦{qC c} m (vLoc d)) ∗ (tLoc d ↦{qC c} flat m d) ∗ (gLoc d ↦[coreSet c.val]{fullShare} gath m d))
/-- What tile `j` of core `c` is given. -/
def goT (d : Dev nD) (c : Fin 2) (j : Fin 16) : sProp 𝕄 :=
  iprop((vLoc d ↦{qT c j} m (vLoc d)) ∗ (tLoc d ↦{qT c j} flat m d) ∗ ∃ f, gLoc d ↦[tileSet (2 * j.val + c.val)]{fullShare} f)
/-- What it hands back. -/
def tdT (d : Dev nD) (c : Fin 2) (j : Fin 16) : sProp 𝕄 :=
  iprop((vLoc d ↦{qT c j} m (vLoc d)) ∗ (tLoc d ↦{qT c j} flat m d) ∗ (gLoc d ↦[tileSet (2 * j.val + c.val)]{fullShare} gath m d))

instance (d : Dev nD) (c : Fin 2) : BI.Storable (upEmb : UEmb _ 𝕄) (stC m d c) := by unfold stC; infer_instance
instance (d : Dev nD) (c : Fin 2) : BI.Storable (upEmb : UEmb _ 𝕄) (dnC m d c) := by unfold dnC; infer_instance
instance (d : Dev nD) (c : Fin 2) (j : Fin 16) : BI.Storable (upEmb : UEmb _ 𝕄) (goT m d c j) := by unfold goT; infer_instance
instance (d : Dev nD) (c : Fin 2) (j : Fin 16) : BI.Storable (upEmb : UEmb _ 𝕄) (tdT m d c j) := by unfold tdT; infer_instance

/-- What the call's handshakes carry. -/
def P : (K (F := F)).Pay (nD := nD) (Val := Elt F) (Name := ℕ) (U := UU) where
  st := fun q d c => match q with | 0 => stC m d (Fin.cast nCore_zero c)
  dn := fun q d c => match q with | 0 => dnC m d (Fin.cast nCore_zero c)
  go := fun q d c i => match q with | 0 => goT m d (Fin.cast nCore_zero c) (Fin.cast nSub_zero i)
  td := fun q d c i => match q with | 0 => tdT m d (Fin.cast nCore_zero c) (Fin.cast nSub_zero i)
  x := fun _ _ => iprop(emp)

instance P_storable : (P (F := F) m).IsStorable where
  st q d c := match q with | 0 => (inferInstance : BI.Storable (upEmb : UEmb _ 𝕄) (stC m d (Fin.cast nCore_zero c)))
  dn q d c := match q with | 0 => (inferInstance : BI.Storable (upEmb : UEmb _ 𝕄) (dnC m d (Fin.cast nCore_zero c)))
  go q d c i := match q with
    | 0 => (inferInstance : BI.Storable (upEmb : UEmb _ 𝕄) (goT m d (Fin.cast nCore_zero c) (Fin.cast nSub_zero i)))
  td q d c i := match q with
    | 0 => (inferInstance : BI.Storable (upEmb : UEmb _ 𝕄) (tdT m d (Fin.cast nCore_zero c) (Fin.cast nSub_zero i)))

/-! ## One tile -/

section

variable (d : Dev nD) (i : grid0.Coords)

abbrev cl (n : SemLoc sig) : GSem nD τ sig := (tl d i, n)

theorem ownSems0_V :
    (ownSems0 (tl d i) : sProp 𝕄)
      = iprop(semVal (cl d i (.dma cc0_scratch3.sem)) 0 ∗ semVal (cl d i (.dma cc0_scratch4.sem)) 0 ∗ semVal (cl d i (.dma cc0_scoped0.sem)) 0
          ∗ bigSep ((((ownCells (tl d i)).erase (cl d i (.dma cc0_scratch3.sem))).erase (cl d i (.dma cc0_scratch4.sem))).erase
              (cl d i (.dma cc0_scoped0.sem))) fun g => semVal g 0) := by
  unfold SparseCore.Cfg.ownSems0
  rw [SparseCore.bigSep_erase' ((mem_ownCells (g := cl d i (.dma cc0_scratch3.sem))).mpr ⟨rfl, by
      show (SemLoc.dma cc0_scratch3.sem : SemLoc sig).isScoped .scVector = true; decide⟩),
    SparseCore.bigSep_erase' (Finset.mem_erase.mpr ⟨by simp [cl]; decide, (mem_ownCells (g := cl d i (.dma cc0_scratch4.sem))).mpr ⟨rfl, by
      show (SemLoc.dma cc0_scratch4.sem : SemLoc sig).isScoped .scVector = true; decide⟩⟩),
    SparseCore.bigSep_erase' (Finset.mem_erase.mpr ⟨by simp [cl]; decide, Finset.mem_erase.mpr ⟨by simp [cl]; decide,
      (mem_ownCells (g := cl d i (.dma cc0_scoped0.sem))).mpr ⟨rfl, by
        show (SemLoc.dma cc0_scoped0.sem : SemLoc sig).isScoped .scVector = true; decide⟩⟩⟩)]

/-- The tile's own reference to one of its buffers. -/
abbrev br (b : Ref sig .scVector) : DevRef τ sig := (tl d i).2.devRef b

theorem ownBufs_V :
    (ownBufs (tl d i) : sProp 𝕄)
      = iprop((∃ f, (tl d i).loc cc0_scratch0 ↦{fullShare} f) ∗ (∃ f, (tl d i).loc cc0_scratch1 ↦{fullShare} f)
          ∗ (∃ f, (tl d i).loc cc0_scratch2 ↦{fullShare} f)
          ∗ bigSep ((((ownRefs (tl d i).2).erase (br d i cc0_scratch0)).erase (br d i cc0_scratch1)).erase (br d i cc0_scratch2))
              fun b => iprop(∃ f, ((d, b) : Loc nD τ sig) ↦{fullShare} f)) := by
  unfold SparseCore.Cfg.ownBufs
  refine (SparseCore.bigSep_erase' (SparseCore.Cfg.mem_ownRefs_of_owner (p := (tl d i).2) (b := br d i cc0_scratch0) rfl)).trans ?_
  rw [SparseCore.bigSep_erase' (Finset.mem_erase.mpr ⟨fun e => absurd (Proc.devRef_injective _ e) (show (cc0_scratch1 : Ref sig .scVector) ≠ cc0_scratch0 by decide),
      SparseCore.Cfg.mem_ownRefs_of_owner (p := (tl d i).2) (b := br d i cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
      SparseCore.Cfg.mem_ownRefs_of_owner (p := (tl d i).2) (b := br d i cc0_scratch2) rfl⟩⟩)]

variable {m}

/-- The words of the tile's pairs. -/
theorem tile_word (d : Dev nD) (i : grid0.Coords) (x : Fin 512) :
    word ((scE.inK i).view.read (Elt F) (m (vLoc d))) x
      = pairs m d (pairAt ((scE.outK i).view.emb (ValueIdx.ix1 x)) 0) * 320#32
        + pairs m d (pairAt ((scE.outK i).view.emb (ValueIdx.ix1 x)) 1) := by
  have hr (b : Fin 2) : (scE.inK i).view.read (Elt F) (m (vLoc d)) (ix2 x b)
      = pairs m d (pairAt ((scE.outK i).view.emb (ValueIdx.ix1 x)) b) := by
    refine ((View.read_apply _ _).trans (cast_eq _ _)).trans (congrArg (pairs m d) ?_)
    refine (inK_emb i x b).trans ?_
    have hp : pairAt ((scE.outK i).view.emb (ValueIdx.ix1 x)) b = pairAt (ix4 (⟨wid i / 4, by have := wid_lt i; omega⟩ : Fin 8)
      (⟨wid i % 4 / 2, by omega⟩ : Fin 2) (0 : Fin 1) (⟨wid i % 2 * 512 + x.val, by omega⟩ : Fin 1024)) b := congrArg (pairAt · b) (outK_emb i x)
    rw [hp]
    funext a
    match a with
    | ⟨0, _⟩ => rfl
    | ⟨1, _⟩ => refine Fin.ext ?_; change wid i % 4 * 512 + x.val = 1024 * (wid i % 4 / 2) + (wid i % 2 * 512 + x.val); omega
    | ⟨2, _⟩ => rfl
  unfold word
  rw [hr 0, hr 1]

/-- What a tile works with at the call. -/
def tileData (hpre : PreOK m) (q : PosShare TreeShare) (O : CellTallies nD τ sig (HIx 1)) (W : Waits sig (HIx 1)) : TData F d i scE where
  q2 := q
  f2 := m (vLoc d)
  q3 := q
  f3 := flat m d
  O := O
  W := W
  hb x := by rw [tile_word]; exact word_lt (hpre.v d _) (hpre.v d _)

/-- What the tile leaves in its entries is what the call leaves there. -/
theorem tile_value (hpre : PreOK m) (q : PosShare TreeShare) (O : CellTallies nD τ sig (HIx 1)) (W : Waits sig (HIx 1))
    {f : Buf (Elt F) (gLoc d)}
    (hf : ∀ x : Fin 512, (scE.outK i).view.read (Elt F) f (ValueIdx.ix1 x)
      = scE.a3.view.read (Elt F) (flat m d) (ValueIdx.ix1 ⟨((tileData d i hpre q O W).w x).toNat, (tileData d i hpre q O W).hb x⟩)) :
    ∀ y ∈ (scE.outK i).view.set, f y = gath m d y := by
  intro y hy
  obtain ⟨x, -, hx⟩ := Finset.mem_map.1 hy
  subst hx
  obtain ⟨x, rfl⟩ : ∃ x' : Fin 512, ValueIdx.ix1 x' = x := ⟨x 0, (eq_ix1 (n := 512) x).symm⟩
  have h := hf x
  have hl : (scE.outK i).view.read (Elt F) f (ValueIdx.ix1 x) = f ((scE.outK i).view.emb (ValueIdx.ix1 x)) :=
    (View.read_apply _ _).trans (cast_eq _ _)
  refine hl.symm.trans (h.trans ?_)
  refine ((View.read_apply _ _).trans (cast_eq _ _)).trans (congrArg (flat m d) ?_)
  have hw := tile_word (m := m) d i x
  have hb := (tileData d i hpre q O W).hb x
  refine (show scE.a3.view.emb (ValueIdx.ix1 _) = ValueIdx.ix1 _ from rfl).trans ?_
  refine congrArg ValueIdx.ix1 (Fin.ext ?_)
  refine ((Nat.mod_eq_of_lt hb).symm.trans ?_)
  exact congrArg (fun w : BitVec 32 => w.toNat % 102400) hw

end

end Cert.Proof

end
-- ==== Proof.ScCall.lean ====
/-
  The SparseCore call's obligations: each tile's task, and the split of a core's share among its tiles.
-/
module

public import proofs.«01_k».proof.Proof.ScTile

@[expose] public section

noncomputable section

namespace Cert.Proof

open Cert.KernelIdeal Cert.KernelIdeal.Gen
open Idealize.ShloMosaic Idealize.ShloMosaic.Transfers
open Idealize.ShloMosaic.SparseCore.Cfg (HIx Pay tileRest ownBufs ownSems0 ownCells ownRefs mem_ownCells mem_ownRefs)
open Idealize.SL Idealize.SL.RA Idealize.SL.BI Idealize.SL.BI.Laws Idealize.SL.ProofMode
open Idealize.SL.BI.BIBase
open Idealize.SL.Sem
open Idealize.ShloMosaic.ValueIdx

variable {F : FTy → Type} [FloatOps F]

local notation "𝕄" => MT nD τ sig (HIx 1) (Elt F) ℕ UU ℕ

variable (m : (ℓ : Loc nD τ sig) → Buf (Elt F) ℓ)

/-! ## One tile's task -/

section

variable (d : Dev nD) (i : grid0.Coords)

/-- The core a tile is on. -/
abbrev cF (i : grid0.Coords) : Fin 2 := i 0
/-- The tile's place on its core. -/
abbrev jF (i : grid0.Coords) : Fin 16 := i 1

/-- The tile's entries of the result, as the call's split names them. -/
theorem out_pts (f : Buf (Elt F) (gLoc d)) :
    (scE.a4.view.loc (tl d i) ↦[(scE.outK i).view.set]{fullShare} f : sProp 𝕄)
      = gLoc d ↦[tileSet (2 * (jF i).val + (cF i).val)]{fullShare} f :=
  congrArg (fun I => (gLoc d ↦[I]{fullShare} f : sProp 𝕄)) (outK_set i)

/-- The task of a tile: from its shares and its entries of the result at any contents, to its shares and its entries
    gathered; its own buffers and counters are as they were, and the waits it made are its own. -/
theorem tile_body (hpre : PreOK m) (O : CellTallies nD τ sig (HIx 1)) (W : Waits sig (HIx 1)) (hO : ∀ g, O g none = 0) :
    iprop(levAts (K (F := F)).L (K (F := F)).lev ∗ emp ∗ goT m d (cF i) (jF i)
        ∗ scopedBufs (tl d i) ∗ scopedSems0 (tl d i) ∗ owes (tl d i) O W)
      ⊢ swp d i (cc0_k i scE.a2 scE.h2 scE.a3 scE.h3 scE.a4 scE.h4 scE.a5 scE.h5 scE.a6 scE.h6 scE.a7 scE.h7 scE.s8 scE.s9 scE.s10)
          fun _ => iprop(tdT m d (cF i) (jF i)
            ∗ scopedBufs (tl d i) ∗ scopedSems0 (tl d i)
            ∗ ∃ W', ⌜∀ p ∈ W', p ∈ W ∨ p.2 = none⌝ ∗ owes (tl d i) O W') := by
  rw [(K (F := F)).scopedBufs_V facts d ((i 0).castLE hcore0) ((i 1).castLE hsub0),
    SparseCore.Cfg.scopedSems0_V (Val := Elt F) d ((i 0).castLE hcore0) ((i 1).castLE hsub0)]
  erw [ownSems0_V, ownBufs_V]
  unfold goT tdT
  iintro ⟨#Hlv, -, ⟨Hv, Ht, %fo, Ho⟩, ⟨Hs0, Hs1, Hs2, Hbufs⟩, ⟨HsA, HsB, HsC, Hsems⟩, HO⟩
  ihave Hmw := (show levAts (K (F := F)).L (K (F := F)).lev ⊢ Transfers.MayWaits (tl d i) (none : HIx 1) O from
    (K (F := F)).mayWaits_none (thr := tl d i) hO) $$ Hlv
  ihave Hin : In0 (tileData d i hpre (qT (cF i) (jF i)) O W) $$ [Hmw HO Hv Ht Ho Hs0 Hs1 Hs2 HsA HsB HsC]
  · unfold In0 Ctx Later SOwes
    isplitl [Hmw HO]
    · isplitl [Hmw]; · iexact Hmw
      iexists W; isplitr
      · ipureintro; exact fun p hp => .inl hp
      iexact HO
    isplitl [Ht Ho Hs2 HsA HsC]
    · isplitl [Ht]; · iexact Ht
      isplitl [Ho]
      · iexists fo; rw [out_pts]; iexact Ho
      isplitl [Hs2]; · iexact Hs2
      isplitl [HsA]; · iexact HsA
      iexact HsC
    isplitl [Hs1]; · iexact Hs1
    isplitl [Hv]; · iexact Hv
    isplitl [Hs0]; · iexact Hs0
    iexact HsB
  ihave Hw := (tile_walk (V := tileData d i hpre (qT (cF i) (jF i)) O W)
    (Q := fun _ => Done (tileData d i hpre (qT (cF i) (jF i)) O W)) (BIBase.Entails.rfl)) $$ Hin
  iapply (wp_wand_r frame (wpE (defs₀ (F := F)) 𝒱₀ (tl d i) none) Set.univ) $$ [Hw Hbufs Hsems]
  isplitl [Hw]; · iexact Hw
  iintro %_ Hd
  unfold Done Ctx SOwes
  icases Hd with ⟨⟨-, HO⟩, Ht, Hv, Hs0, Hs1, Hs2, HsA, HsB, HsC, %f, Hf, %hf⟩
  isplitl [Ht Hv Hf]
  · isplitl [Hv]; · iexact Hv
    isplitl [Ht]; · iexact Ht
    have he : (scE.a4.view.loc (tl d i) ↦[(scE.outK i).view.set]{fullShare} f : sProp 𝕄)
        = gLoc d ↦[tileSet (2 * (jF i).val + (cF i).val)]{fullShare} gath m d :=
      (pointsTo_congr (ℓ := gLoc d) (tile_value (m := m) d i hpre (qT (cF i) (jF i)) O W hf)).trans (out_pts d i (gath m d))
    iapply (Entails.of_eq he); iexact Hf
  isplitl [Hs0 Hs1 Hs2 Hbufs]
  · isplitl [Hs0]; · iexact Hs0
    isplitl [Hs1]; · iexact Hs1
    isplitl [Hs2]; · iexact Hs2
    iexact Hbufs
  isplitl [HsA HsB HsC Hsems]
  · isplitl [HsA]; · iexact HsA
    isplitl [HsB]; · iexact HsB
    isplitl [HsC]; · iexact HsC
    iexact Hsems
  iexact HO

end

theorem defs₀_vector (c : Fin τ.nSC) (s : Fin τ.nSub) :
    defs₀ (F := F) (.scVector c s) 0 ()
      = SparseCore.onTile hcore0 hsub0 (fun c s => cc0_k (coordsV c s) scE.a2 scE.h2 scE.a3 scE.h3 scE.a4 scE.h4 scE.a5 scE.h5
          scE.a6 scE.h6 scE.a7 scE.h7 scE.s8 scE.s9 scE.s10) ⟨⟩ c s := rfl

/-- The waits a tile makes at no call's index are allowed. -/
theorem obl_post {thr : Thread nD τ} {A B C : sProp (MT nD τ sig (HIx 1) (Elt F) ℕ UU ℕ)} {O : CellTallies nD τ sig (HIx 1)}
    {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every tile's task meets what the call asks of it. -/
theorem tileObl (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hpre O W hO).trans (wp_mono frame _ _ fun _ => obl_post)

/-! ## The splits -/

theorem tileSet_disjoint (c : Fin 2) : ∀ j ∈ (Finset.univ : Finset (Fin 16)), ∀ k ∈ (Finset.univ : Finset (Fin 16)), j ≠ k →
    Disjoint (tileSet (2 * j.val + c.val)) (tileSet (2 * k.val + c.val)) := by
  intro j _ k _ h
  refine Finset.disjoint_left.2 fun y hj hk => h (Fin.ext ?_)
  rw [mem_tileSet] at hj hk
  omega

theorem tileSet_cover (c : Fin 2) : (Finset.univ : Finset (Fin 16)).biUnion (fun j => tileSet (2 * j.val + c.val)) = coreSet c.val := by
  ext y
  rw [mem_coreSet, Finset.mem_biUnion]
  have h0 : (y 0).val < 8 := (y 0).isLt
  have h1 : (y 1).val < 2 := (y 1).isLt
  have h3 : (y 3).val < 1024 := (y 3).isLt
  constructor
  · rintro ⟨j, -, hj⟩
    rw [mem_tileSet] at hj
    omega
  · intro h
    refine ⟨⟨tileOf y / 2, by unfold tileOf; omega⟩, Finset.mem_univ _, mem_tileSet.2 ?_⟩
    change tileOf y = 2 * (tileOf y / 2) + c.val
    omega

theorem coreSet_disjoint : ∀ j ∈ (Finset.univ : Finset (Fin 2)), ∀ k ∈ (Finset.univ : Finset (Fin 2)), j ≠ k →
    Disjoint (coreSet j.val) (coreSet k.val) := by
  intro j _ k _ h
  refine Finset.disjoint_left.2 fun y hj hk => h (Fin.ext ?_)
  rw [mem_coreSet] at hj hk
  omega

theorem coreSet_cover : (Finset.univ : Finset (Fin 2)).biUnion (fun j => coreSet j.val) = Finset.univ := by
  ext y
  refine ⟨fun _ => Finset.mem_univ _, fun _ => Finset.mem_biUnion.2 ⟨⟨tileOf y % 2, by omega⟩, Finset.mem_univ _, mem_coreSet.2 rfl⟩⟩

/-- A core's entries are its tiles'. -/
theorem core_tiles (d : Dev nD) (c : Fin 2) (f : Buf (Elt F) (gLoc d)) :
    (gLoc d ↦[coreSet c.val]{fullShare} f : sProp 𝕄)
      = bigSep Finset.univ fun j : Fin 16 => gLoc d ↦[tileSet (2 * j.val + c.val)]{fullShare} f := by
  rw [← pointsTo_biUnion Finset.univ (ℓ := gLoc d) (fun j : Fin 16 => tileSet (2 * j.val + c.val)) (tileSet_disjoint c)]
  exact congrArg (fun I => (gLoc d ↦[I]{fullShare} f : sProp 𝕄)) (tileSet_cover c).symm

/-- The result's entries are the cores'. -/
theorem all_cores (d : Dev nD) (f : Buf (Elt F) (gLoc d)) :
    (gLoc d ↦{fullShare} f : sProp 𝕄) = bigSep Finset.univ fun c : Fin 2 => gLoc d ↦[coreSet c.val]{fullShare} f := by
  rw [← pointsTo_biUnion Finset.univ (ℓ := gLoc d) (fun c : Fin 2 => coreSet c.val) coreSet_disjoint]
  exact congrArg (fun I => (gLoc d ↦[I]{fullShare} f : sProp 𝕄)) coreSet_cover.symm

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem bigSep_cores (Φ : Fin 2 → sProp 𝕄) :
    (bigSep Finset.univ fun i : Fin ((K (F := F)).nCore 0) => Φ (Fin.cast nCore_zero i)) = bigSep Finset.univ Φ :=
  bigSep_congr fun _ _ => congrArg Φ (Fin.ext rfl)

/-- A core's share of what it reads is its tiles'. -/
theorem core_shares {ℓ : Loc nD τ sig} (f : Buf (Elt F) ℓ) (c : Fin 2) :
    (ℓ ↦{qC c} f : sProp 𝕄) = bigSep Finset.univ fun j : Fin 16 => ℓ ↦{qT c j} f :=
  pointsTo_piecesOf Finset.univ f (Nat.succ_pos 15) (qC c)

/-- What is read is the cores' shares. -/
theorem all_shares {ℓ : Loc nD τ sig} (f : Buf (Elt F) ℓ) :
    (ℓ ↦{fullShare} f : sProp 𝕄) = bigSep Finset.univ fun c : Fin 2 => ℓ ↦{qC c} f :=
  pointsTo_piecesOf Finset.univ f (Nat.succ_pos 1) fullShare

theorem go_intro (d : Dev nD) (c : Fin 2) (f : Buf (Elt F) (gLoc d)) :
    iprop((bigSep Finset.univ fun j : Fin 16 => vLoc d ↦{qT c j} m (vLoc d))
        ∗ (bigSep Finset.univ fun j : Fin 16 => tLoc d ↦{qT c j} flat m d)
        ∗ (bigSep Finset.univ fun j : Fin 16 => gLoc d ↦[tileSet (2 * j.val + c.val)]{fullShare} f))
      ⊢ (bigSep Finset.univ fun j : Fin 16 => goT m d c j : sProp 𝕄) := by
  have h (j : Fin 16) : iprop((vLoc d ↦{qT c j} m (vLoc d)) ∗ (tLoc d ↦{qT c j} flat m d)
      ∗ (gLoc d ↦[tileSet (2 * j.val + c.val)]{fullShare} f)) ⊢ goT m d c j := by
    unfold goT
    iintro ⟨Hv, Ht, Ho⟩
    isplitl [Hv]; · iexact Hv
    isplitl [Ht]; · iexact Ht
    iexists f; iexact Ho
  rw [← bigSep_sep', ← bigSep_sep']
  exact BI.bigSep_mono fun j _ => h j

theorem td_eq (d : Dev nD) (c : Fin 2) : (bigSep Finset.univ fun j : Fin 16 => tdT m d c j : sProp 𝕄)
      = iprop((bigSep Finset.univ fun j : Fin 16 => vLoc d ↦{qT c j} m (vLoc d))
        ∗ (bigSep Finset.univ fun j : Fin 16 => tLoc d ↦{qT c j} flat m d)
        ∗ (bigSep Finset.univ fun j : Fin 16 => gLoc d ↦[tileSet (2 * j.val + c.val)]{fullShare} gath m d)) := by
  unfold tdT; rw [bigSep_sep', bigSep_sep']

/-- A core's share of a call splits among its tiles, and theirs make the core's. -/
theorem core_split (d : Dev nD) (c : Fin 2) :
    stC m d c ⊢ iprop((bigSep Finset.univ fun j : Fin 16 => goT m d c j) ∗ ((bigSep Finset.univ fun j : Fin 16 => tdT m d c j) -∗ dnC m d c)) := by
  unfold stC
  iintro ⟨Hv, Ht, %f, Ho⟩
  ihave Hv := (Entails.of_eq (core_shares (m (vLoc d)) c)) $$ Hv
  ihave Ht := (Entails.of_eq (core_shares (flat m d) c)) $$ Ht
  ihave Ho := (Entails.of_eq (core_tiles d c f)) $$ Ho
  isplitl [Hv Ht Ho]
  · iapply (go_intro m d c f)
    isplitl [Hv]; · iexact Hv
    isplitl [Ht]; · iexact Ht
    iexact Ho
  iintro H
  ihave H := (Entails.of_eq (td_eq m d c)) $$ H
  icases H with ⟨Hv, Ht, Ho⟩
  unfold dnC
  isplitl [Hv]; · iapply (Entails.of_eq (core_shares (m (vLoc d)) c).symm); iexact Hv
  isplitl [Ht]; · iapply (Entails.of_eq (core_shares (flat m d) c).symm); iexact Ht
  iapply (Entails.of_eq (core_tiles d c (gath m d)).symm); iexact Ho

theorem vecSplit : (K (F := F)).VecSplit' (P m) 0 := by
  intro d c
  show stC m d (Fin.cast nCore_zero c) ⊢ |={Set.univ}=> iprop(
      (bigSep Finset.univ fun i : Fin ((K (F := F)).nSub 0) => goT m d (Fin.cast nCore_zero c) (Fin.cast nSub_zero i))
      ∗ ((bigSep Finset.univ fun i : Fin ((K (F := F)).nSub 0) => tdT m d (Fin.cast nCore_zero c) (Fin.cast nSub_zero i)) -∗ dnC m d (Fin.cast nCore_zero c)))
  rw [bigSep_tasks (F := F) (fun i => goT m d (Fin.cast nCore_zero c) i), bigSep_tasks (F := F) (fun i => tdT m d (Fin.cast nCore_zero c) i)]
  iintro H; imodintro
  iapply (core_split m d (Fin.cast nCore_zero c)); iexact H

/-- The call's operands whole are what its cores are given. -/
theorem call_split (d : Dev nD) (f : Buf (Elt F) (gLoc d)) :
    iprop((vLoc d ↦{fullShare} m (vLoc d)) ∗ (tLoc d ↦{fullShare} flat m d) ∗ (gLoc d ↦{fullShare} f))
      ⊢ (bigSep Finset.univ fun c : Fin ((K (F := F)).nCore 0) => (P m).st 0 d c) := by
  have h (c : Fin 2) : iprop((vLoc d ↦{qC c} m (vLoc d)) ∗ (tLoc d ↦{qC c} flat m d) ∗ (gLoc d ↦[coreSet c.val]{fullShare} f)) ⊢ stC m d c := by
    unfold stC
    iintro ⟨Hv, Ht, Ho⟩
    isplitl [Hv]; · iexact Hv
    isplitl [Ht]; · iexact Ht
    iexists f; iexact Ho
  change _ ⊢ bigSep Finset.univ fun c : Fin ((K (F := F)).nCore 0) => stC m d (Fin.cast nCore_zero c)
  rw [bigSep_cores (F := F) (fun c => stC m d c), all_shares, all_shares (flat m d), all_cores, ← bigSep_sep', ← bigSep_sep']
  exact BI.bigSep_mono fun c _ => h c

/-- What the cores hand back is the call's operands whole, the result gathered. -/
theorem call_join (d : Dev nD) :
    (bigSep Finset.univ fun c : Fin ((K (F := F)).nCore 0) => (P m).dn 0 d c)
      = iprop((vLoc d ↦{fullShare} m (vLoc d)) ∗ (tLoc d ↦{fullShare} flat m d) ∗ (gLoc d ↦{fullShare} gath m d)) := by
  change (bigSep Finset.univ fun c : Fin ((K (F := F)).nCore 0) => dnC m d (Fin.cast nCore_zero c)) = _
  rw [bigSep_cores (F := F) (fun c => dnC m d c), all_shares, all_shares (flat m d), all_cores, ← bigSep_sep', ← bigSep_sep']
  rfl

end Cert.Proof

end
-- ==== Proof.TcRegion.lean ====
/-
  The TensorCore call: its body's operands and data, the data of its one grid point, and the obligation of the body,
  met by the walk.
-/
module

public import proofs.«01_k».proof.Proof.TcWalk
public import proofs.«01_k».proof.Proof.ScCall

@[expose] public section

noncomputable section

namespace Cert.Proof

open Cert.KernelIdeal Cert.KernelIdeal.Gen
open Idealize.ShloMosaic Idealize.ShloMosaic.Transfers
open Idealize.ShloMosaic.SparseCore.Cfg (HIx)
open Idealize.SL Idealize.SL.RA Idealize.SL.BI Idealize.SL.BI.Laws Idealize.SL.ProofMode
open Idealize.SL.BI.BIBase
open Idealize.SL.Sem
open Idealize.ShloMosaic.TcCoe

variable {F : FTy → Type} [FloatOps F]

local notation "𝕄" => MT nD τ sig (HIx 1) (Elt F) ℕ UU ℕ

/-- The operands the call gives its body. -/
abbrev tcE : Env where
  a1 := Memref.whole main_arg1
  h1 := Memref.isWhole_whole _
  a2 := Memref.whole cc1_stg0_0
  h2 := Memref.isWhole_whole _
  a3 := Memref.whole main_arg0
  h3 := Memref.isWhole_whole _
  a4 := Memref.whole cc1_stg1_0
  h4 := Memref.isWhole_whole _
  a5 := Memref.whole cc1_scratch0
  h5 := Memref.isWhole_whole _
  a6 := Memref.whole cc1_scratch1
  h6 := Memref.isWhole_whole _
  a7 := Memref.whole cc1_scratch2
  h7 := Memref.isWhole_whole _
  a8 := Memref.whole cc1_scratch3
  h8 := Memref.isWhole_whole _
  a9 := Memref.whole cc1_scratch4
  h9 := Memref.isWhole_whole _
  a10 := cc1_scratch5
  a11 := cc1_scratch6
  a12 := cc1_scratch7
  a13 := cc1_scratch8
  a14 := cc1_scratch9

variable (m : (ℓ : Loc nD τ sig) → Buf (Elt F) ℓ) (hpre : PreOK m)

/-- The waits a TensorCore may have recorded once the SparseCore call is over. -/
def tcR (d : Dev nD) : Set (SemLoc sig × HIx 1) := {p | (K (F := F)).lev (SparseCore.T d, p.1) p.2 ≤ 8}

/-- What the body reads: the lengths, the gathered rows of weights and the operand `x`. -/
def tcV (d : Dev nD) : Data F tcE where
  fl := m (lLoc d)
  ql := fullShare
  fw := gath m d
  fx := m (xLoc d)
  R := tcR (F := F) d
  hR := fun s => Nat.zero_le 8
  hlen := fun b => hpre.l d _

/-- The contents of the prefetched table: the lengths. -/
def adm (p : Fin 1) : (pcfgs (F := F) p).Adm :=
  ⟨fun k => match k with | ⟨0, _⟩ => m (lLoc 0), trivial⟩

/-- What the body keeps between the ends of its point: some share of `x`, the lengths, the five buffers at rest. -/
def PhiT (d : Dev nD) : sProp 𝕄 :=
  iprop(XTok d tcE (tcV m hpre d) ∗ (lLoc d ↦{fullShare} m (lLoc d)) ∗ Slots d tcE (tcV m hpre d) ⟨.idle, .idle, .idle, .idle, .idle⟩)

/-- The data of the call: its two arrays at entry, and of what the body leaves in the output's buffer that it is what
    the walk accumulates. -/
def rd (_ : Fin 1) (d : Dev nD) : Pipeline.RDat τ (Elt F) (HIx 1) ℕ UU ℕ (cfg1 (F := F) (adm m 0)) d where
  A w := match w with | ⟨0, _⟩ => gath m d | ⟨1, _⟩ => m (oLoc d)
  after w _ _ := match w with | ⟨0, _⟩ => fun _ => True | ⟨1, _⟩ => fun X => accAfter (tcV m hpre d) 16 X
  Φ _ := PhiT m hpre d
  q _ := fullShare
  owed _ := 0
  recorded _ := tcR (F := F) d

theorem tr0 (i : grid1.Coords) (a : Fin 4) : cc1_transform_0 i a = 0 := by fin_cases a <;> rfl
theorem tr1 (i : grid1.Coords) (a : Fin 2) : cc1_transform_2 i a = 0 := by fin_cases a <;> rfl

/-- The one block of the gathered weights is all of them. -/
theorem rect0_emb (j : S8x2x1x1024.Idx) : ((((cfg1 (F := F) (adm m 0)).win 0).rect t1_0).emb j : S8x2x1x1024.Idx) = j :=
  funext fun a => Fin.ext <| (Rect.emb_apply _ _ _).trans <| by
    exact (congrArg (fun n => n * S8x2x1x1024.size a + 1 * (j a).val) (tr0 (grid1.coords t1_0) a)).trans (by omega)

/-- The one block of the result is all of it. -/
theorem rect1_emb (j : S8x768.Idx) : ((((cfg1 (F := F) (adm m 0)).win 1).rect t1_0).emb j : S8x768.Idx) = j :=
  funext fun a => Fin.ext <| (Rect.emb_apply _ _ _).trans <| by
    exact (congrArg (fun n => n * S8x768.size a + 1 * (j a).val) (tr1 (grid1.coords t1_0) a)).trans (by omega)

theorem fetch0 : ((cfg1 (F := F) (adm m 0)).win 0).fetch t1_0 = true := rfl
theorem flush1 : ((cfg1 (F := F) (adm m 0)).win 1).flush t1_0 = true := rfl

/-- The body finds the gathered weights in their buffer. -/
theorem find0 (d : Dev nD) (Y : S8x2x1x1024.Idx → Elt F .f32) (h : (rd m hpre 0 d).Finds 0 t1_0 Y) : Y = gath m d := by
  obtain ⟨e, he⟩ := ((rd m hpre 0 d).finds_of_fetch (w := 0) (t := t1_0) (fetch0 m) Y).1 h
  refine he.trans (funext fun j => ?_)
  have hm : ((cfg1 (F := F) (adm m 0)).win 0).moved ((cfg1 (F := F) (adm m 0)).grid.coords t1_0) j = true :=
    (Pipeline.Window.moved_iff _ _ _).mpr fun a => (j a).isLt
  unfold Pipeline.RDat.fetched Pipeline.Window.fill
  exact (dif_pos hm).trans (congrArg (gath m d) (rect0_emb m j))

/-- What the array of results can hold when the call returns: what the walk accumulates. -/
theorem arr1 (d : Dev nD) (G : S8x768.Idx → Elt F .f32) (h : (rd m hpre 0 d).ArrAt 1 1 G) : accAfter (tcV m hpre d) 16 G := by
  have h : (rd m hpre 0 d).ArrStep 1 t1_0 ((rd m hpre 0 d).ArrAt 1 0) G := by
    have h' : (rd m hpre 0 d).ArrAt 1 (0 + 1) G := h
    unfold Pipeline.RDat.ArrAt at h'
    rw [dif_pos (show 0 < grid1.N by decide)] at h'
    have h3 : (if ((cfg1 (F := F) (adm m 0)).win 1).flush t1_0 = true then (rd m hpre 0 d).ArrStep 1 t1_0 ((rd m hpre 0 d).ArrAt 1 0) else (rd m hpre 0 d).ArrAt 1 0) G := h'
    rw [if_pos (flush1 m)] at h3
    exact h3
  obtain ⟨G₀, X, -, ⟨Y, -, hX⟩, hG⟩ := h
  have e : G = X := by
    refine funext fun j => ?_
    have h2 := congrFun (View.read_write_univ (Val := Elt F) (v := (((cfg1 (F := F) (adm m 0)).win 1).blk t1_0).view) G₀ (((cfg1 (F := F) (adm m 0)).win 1).cut ((cfg1 (F := F) (adm m 0)).grid.coords t1_0) X)) j
    rw [← hG] at h2
    exact (congrArg G (rect1_emb m j)).symm.trans h2
  exact e ▸ hX

/-- The body of the call, on its operands. -/
theorem tc_prog (s : (w : Fin 2) → Fin (spec1 w).nbuf) :
    defs₀ (F := F) .tc 1 (t1_0, s) = cc1_body (grid1.coords t1_0) tcE.a1 tcE.h1 tcE.a2 tcE.h2 tcE.a3 tcE.h3 tcE.a4 tcE.h4 tcE.a5 tcE.h5
      tcE.a6 tcE.h6 tcE.a7 tcE.h7 tcE.a8 tcE.h8 tcE.a9 tcE.h9 tcE.a10 tcE.a11 tcE.a12 tcE.a13 tcE.a14 := by
  obtain rfl : s = fun w => match w with | ⟨0, _⟩ => (0 : Fin 1) | ⟨1, _⟩ => (0 : Fin 1) := by
    funext w
    match w with
    | ⟨0, _⟩ => exact Subsingleton.elim (α := Fin 1) _ _
    | ⟨1, _⟩ => exact Subsingleton.elim (α := Fin 1) _ _
  rfl

/-- The waits the call may have recorded are those its body may record. -/
theorem bound_iff (d : Dev nD) (t : Fin (grid1.N + 1)) (p : SemLoc sig × HIx 1) : p ∈ (rd m hpre 0 d).bound none t ↔ p ∈ tcR (F := F) d := by
  constructor
  · rintro (h | ⟨w, s, rfl⟩)
    · exact h
    · exact Nat.zero_le 8
  · exact Or.inl

/-- The call's tallies as the walk holds them. -/
theorem owesAt_eq (d : Dev nD) (t : Fin (grid1.N + 1)) : ((rd m hpre 0 d).owesAt none t : sProp 𝕄) = Owes d tcE (tcV m hpre d) := by
  unfold Pipeline.RDat.owesAt Pipeline.owesWithin Owes
  have e : (rd m hpre 0 d).bound none t = (tcV m hpre d).R := Set.ext (bound_iff m hpre d t)
  rw [e]
  rfl

/-- The walk, from and to what the call holds. -/
theorem tc_run (d : Dev nD) (Y : S8x768.Idx → Elt F .f32) :
    iprop(PhiT m hpre d ∗ Owes d tcE (tcV m hpre d) ∗ owns d (Memref.whole cc1_stg0_0) fullShare (gath m d) ∗ owns d (Memref.whole cc1_stg1_0) fullShare Y)
      ⊢ twp d (cc1_body (grid1.coords t1_0) tcE.a1 tcE.h1 tcE.a2 tcE.h2 tcE.a3 tcE.h3 tcE.a4 tcE.h4 tcE.a5 tcE.h5
      tcE.a6 tcE.h6 tcE.a7 tcE.h7 tcE.a8 tcE.h8 tcE.a9 tcE.h9 tcE.a10 tcE.a11 tcE.a12 tcE.a13 tcE.a14)
      fun _ => iprop(PhiT m hpre d ∗ Owes d tcE (tcV m hpre d) ∗ (∃ X, ⌜True⌝ ∗ owns d (Memref.whole cc1_stg0_0) fullShare X)
        ∗ (∃ X, ⌜accAfter (tcV m hpre d) 16 X⌝ ∗ owns d (Memref.whole cc1_stg1_0) fullShare X)) := by
  refine BIBase.Entails.trans ?_ (walk (V := tcV m hpre d) (a := fun _ => True) (grid1.coords t1_0) ?_)
  · rw [owns_whole_eq, owns_whole_eq]
    unfold PhiT St Base
    iintro ⟨⟨HX, HL, HS⟩, HO, ⟨%f, %hf, Hf⟩, ⟨%g, %hg, Hg⟩⟩
    subst hf
    isplitr [HS]
    · isplitl [HX]; · iexact HX
      isplitl [HL]; · iexact HL
      isplitl [Hf]; · iexact Hf
      isplitl [Hg]
      · iexists g; isplitl; · iexact Hg
        ipureintro; trivial
      iexact HO
    · iexact HS
  · unfold PhiT St Base
    iintro ⟨⟨HX, HL, Hf, ⟨%g, Hg, %hg⟩, HO⟩, HS⟩
    isplitl [HX HL HS]
    · isplitl [HX]; · iexact HX
      isplitl [HL]; · iexact HL
      iexact HS
    isplitl [HO]; · iexact HO
    isplitl [Hf]
    · iexists gath m d
      isplitr; · ipureintro; trivial
      rw [owns_whole_eq]
      iexists gath m d
      isplitr; · ipureintro; rfl
      iexact Hf
    · iexists g
      isplitr; · ipureintro; exact hg
      rw [owns_whole_eq]
      iexists g
      isplitr; · ipureintro; rfl
      iexact Hg

/-- The obligation of the body, met by the walk. -/
theorem tc_body (d : Dev nD) : (rd m hpre 0 d).BodyObligation defs₀ 𝒱₀ none Set.univ := fun t Y hY => by
  obtain rfl := fin_N1 t
  have h0 : Y 0 = gath m d := find0 m hpre d (Y 0) (hY 0)
  have e1 := owesAt_eq m hpre d t1_0.castSucc
  have e2 := owesAt_eq m hpre d t1_0.succ
  rw [bigSep_W1, bigSep_W1, e1, e2, h0]
  have h := tc_run m hpre d (Y 1)
  rw [← tc_prog ((cfg1 (F := F) (adm m 0)).slots t1_0)] at h
  exact h

end Cert.Proof

end
-- ==== Proof.TcSeg.lean ====
/-
  The TensorCore call as a step of the whole run: what it is entered with, what it leaves.
-/
module

public import proofs.«01_k».proof.Proof.TcRegion

@[expose] public section

noncomputable section

namespace Cert.Proof

open Cert.KernelIdeal Cert.KernelIdeal.Gen
open Idealize.ShloMosaic Idealize.ShloMosaic.Transfers
open Idealize.ShloMosaic.SparseCore.Cfg (HIx)
open Idealize.SL Idealize.SL.RA Idealize.SL.BI Idealize.SL.BI.Laws Idealize.SL.ProofMode
open Idealize.SL.BI.BIBase
open Idealize.SL.Sem
open Idealize.ShloMosaic.TcCoe

variable {F : FTy → Type} [FloatOps F]

local notation "𝕄" => MT nD τ sig (HIx 1) (Elt F) ℕ UU ℕ

variable (m : (ℓ : Loc nD τ sig) → Buf (Elt F) ℓ) (hpre : PreOK m)

/-- The semaphores of the five buffers. -/
def tcSem (k : Fin 5) : SemLoc sig := .dma (tcE.sem k).sem

theorem tcSem_facts : Pipeline.OwnSemFacts spec1 tcSem := by decide

/-- They are at zero, one by one. -/
theorem tcSems_eq (d : Dev nD) :
    (Pipeline.ownSems0 (Ix := HIx 1) (Name := ℕ) (U := UU) (Lvl := ℕ) (Val := Elt F) (τ := τ) tcSem d : sProp 𝕄)
      = iprop(semVal ((d.tc : Thread nD τ), tcSem 0) 0 ∗ semVal ((d.tc : Thread nD τ), tcSem 1) 0 ∗ semVal ((d.tc : Thread nD τ), tcSem 2) 0
        ∗ semVal ((d.tc : Thread nD τ), tcSem 3) 0 ∗ semVal ((d.tc : Thread nD τ), tcSem 4) 0) :=
  Pipeline.ownSems0_eq_of_list d tcSem [0, 1, 2, 3, 4] (by decide) (by decide)

/-- The five buffers at rest, one by one. -/
theorem slots_eq (d : Dev nD) (V : Data F tcE) :
    (Slots d tcE V ⟨.idle, .idle, .idle, .idle, .idle⟩ : sProp 𝕄)
      = iprop(Idle d (tcE.buf 0) (tcE.sem 0) ∗ Idle d (tcE.buf 1) (tcE.sem 1) ∗ Idle d (tcE.buf 2) (tcE.sem 2)
        ∗ Idle d (tcE.buf 3) (tcE.sem 3) ∗ Idle d (tcE.buf 4) (tcE.sem 4)) := by
  unfold Slots
  rw [show (fun k : Fin 5 => Slot d tcE V k (T5.get ⟨.idle, .idle, .idle, .idle, .idle⟩ k)) = fun k : Fin 5 => Idle d (tcE.buf k) (tcE.sem k) from
    funext fun k => by fin_cases k <;> rfl]
  exact bigSep_univ_eq_bigSepL [(0 : Fin 5), 1, 2, 3, 4] (by decide) (by decide) _

/-- The five buffers at rest are the scoped buffers no window stages and the five semaphores at zero. -/
theorem slots_iff (d : Dev nD) (V : Data F tcE) :
    (Slots d tcE V ⟨.idle, .idle, .idle, .idle, .idle⟩ : sProp 𝕄)
      ⊣⊢ iprop(Pipeline.ownSems0 tcSem d ∗ Pipeline.scopedRest spec1 d) := by
  rw [slots_eq, tcSems_eq, scopedRest1_eq]
  unfold Idle
  constructor
  · iintro ⟨⟨B0, S0⟩, ⟨B1, S1⟩, ⟨B2, S2⟩, ⟨B3, S3⟩, ⟨B4, S4⟩⟩
    isplitl [S0 S1 S2 S3 S4]
    · isplitl [S0]; · iexact S0
      isplitl [S1]; · iexact S1
      isplitl [S2]; · iexact S2
      isplitl [S3]; · iexact S3
      iexact S4
    · isplitl [B0]; · iexact B0
      isplitl [B1]; · iexact B1
      isplitl [B2]; · iexact B2
      isplitl [B3]; · iexact B3
      iexact B4
  · iintro ⟨⟨S0, S1, S2, S3, S4⟩, B0, B1, B2, B3, B4⟩
    isplitl [B0 S0]; · (isplitl [B0]; · iexact B0); iexact S0
    isplitl [B1 S1]; · (isplitl [B1]; · iexact B1); iexact S1
    isplitl [B2 S2]; · (isplitl [B2]; · iexact B2); iexact S2
    isplitl [B3 S3]; · (isplitl [B3]; · iexact B3); iexact S3
    isplitl [B4]; · iexact B4
    iexact S4

/-- The prefetched table held is the lengths held. -/
theorem pref_eq (d : Dev nD) :
    (Pipeline.prefHeld pre1 d (fun _ => fullShare) (adm m 0).1 : sProp 𝕄) = (lLoc d ↦{fullShare} m (lLoc d)) := by
  obtain rfl : d = 0 := Subsingleton.elim _ _
  unfold Pipeline.prefHeld
  exact bigSep_univ_of_subsingleton (0 : Fin 1)

/-- What the call is entered with. -/
def tcPre (d : Dev nD) : sProp 𝕄 :=
  iprop((gLoc d ↦{fullShare} gath m d) ∗ (oLoc d ↦{fullShare} m (oLoc d)) ∗ (lLoc d ↦{fullShare} m (lLoc d)) ∗ (xLoc d ↦{fullShare} m (xLoc d))
    ∗ Owes d tcE (tcV m hpre d))

/-- What it leaves: the result one the walk accumulates, the lengths, some share of `x`. -/
def tcPost (d : Dev nD) : sProp 𝕄 :=
  iprop((∃ G, ⌜accAfter (tcV m hpre d) 16 G⌝ ∗ (oLoc d ↦{fullShare} G)) ∗ (lLoc d ↦{fullShare} m (lLoc d)) ∗ (∃ q, xLoc d ↦{q} m (xLoc d))
    ∗ Owes d tcE (tcV m hpre d))

/-- The call's first array held is the gathered weights held. -/
theorem arr0_eq (d : Dev nD) (f : Buf (Elt F) (gLoc d)) :
    (((cfg1 (F := F) (adm m 0)).win 0).arr.view.loc (d.tc : Thread nD τ) ↦[((cfg1 (F := F) (adm m 0)).win 0).arr.view.set]{(rd m hpre 0 d).share 0} f : sProp 𝕄)
      = (gLoc d ↦{fullShare} f) := by
  rw [(rd m hpre 0 d).share_full (fun _ => rfl) 0]
  exact congrArg (fun I => (gLoc d ↦[I]{fullShare} f : sProp 𝕄)) (View.set_whole main_v1)

/-- Its second is the result held. -/
theorem arr1_eq (d : Dev nD) (f : Buf (Elt F) (oLoc d)) :
    (((cfg1 (F := F) (adm m 0)).win 1).arr.view.loc (d.tc : Thread nD τ) ↦[((cfg1 (F := F) (adm m 0)).win 1).arr.view.set]{(rd m hpre 0 d).share 1} f : sProp 𝕄)
      = (oLoc d ↦{fullShare} f) := by
  rw [(rd m hpre 0 d).share_full (fun _ => rfl) 1]
  exact congrArg (fun I => (oLoc d ↦[I]{fullShare} f : sProp 𝕄)) (View.set_whole main_v2)

/-- The arrays at entry. -/
theorem arrays_in (d : Dev nD) :
    iprop((gLoc d ↦{fullShare} gath m d) ∗ (oLoc d ↦{fullShare} m (oLoc d))) ⊢ ((rd m hpre 0 d).arrays (rd m hpre 0 d).A : sProp 𝕄) := by
  unfold Pipeline.RDat.arrays
  rw [bigSep_W1]
  exact Entails.of_eq (congrArg₂ BIBase.sep (arr0_eq m hpre d _).symm (arr1_eq m hpre d _).symm)

/-- The arrays at exit: the result is one the walk accumulates. -/
theorem arrays_out (d : Dev nD) :
    ((rd m hpre 0 d).arraysAt grid1.N : sProp 𝕄) ⊢ iprop(∃ G, ⌜accAfter (tcV m hpre d) 16 G⌝ ∗ (oLoc d ↦{fullShare} G)) := by
  unfold Pipeline.RDat.arraysAt
  rw [bigSep_W1]
  iintro ⟨-, ⟨%G, %hG, H⟩⟩
  iexists G
  isplitr
  · ipureintro; exact arr1 m hpre d G hG
  iapply (Entails.of_eq (arr1_eq m hpre d G))
  iexact H

set_option backward.isDefEq.respectTransparency.types false in
/-- The call: its layout, its own five semaphores, the obligation of its body, and what passes its two ends. -/
def tcSeg : Pipeline.RDat.RegionSeg (pcfgs (F := F)) (adm m) (rd m hpre) none defs₀ 𝒱₀ (K (F := F)).L (K (F := F)).lev 0 where
  win := launch1.win.to₀
  block_pos := block_pos1
  stage_whole := stage_whole1
  K := Fin 5
  osem := tcSem
  ho := tcSem_facts
  hbody := tc_body m hpre
  hwaits := Pipeline.RDat.hwaits_of_owed_zero _ _ _ _ _ _ 0 fun _ _ => rfl
  pre := tcPre m hpre
  post := tcPost m hpre
  X d := iprop((xLoc d ↦{fullShare} m (xLoc d)) ∗ Pipeline.ownSems0 tcSem d)
  Y d := iprop((lLoc d ↦{fullShare} m (lLoc d)) ∗ ∃ q, xLoc d ↦{q} m (xLoc d))
  Z _ := iprop(emp)
  hentry d := by
    have e := pref_eq m d
    unfold tcPre
    rw [e, owesAt_eq]
    iintro ⟨⟨Hg, Ho, Hl, Hx, HO⟩, Hs, -⟩
    imodintro
    isplitl [Hg Ho]
    · iapply (arrays_in m hpre d)
      isplitl [Hg]; · iexact Hg
      iexact Ho
    isplitl [Hl]; · iexact Hl
    isplitl [HO]; · iexact HO
    isplitl [Hx Hs]
    · isplitl [Hx]; · iexact Hx
      iexact Hs
    iempintro
  hin d := by
    have e := pref_eq m d
    rw [e, show (rd m hpre 0 d).Φ 0 = PhiT m hpre d from rfl]
    unfold PhiT XTok
    iintro ⟨⟨Hx, Hs⟩, Hl, Hr⟩
    isplitl [Hx]; · iexists fullShare; iexact Hx
    isplitl [Hl]; · iexact Hl
    iapply (slots_iff d (tcV m hpre d)).2
    isplitl [Hs]; · iexact Hs
    iexact Hr
  hout d := by
    rw [show (rd m hpre 0 d).Φ (Fin.last _) = PhiT m hpre d from rfl]
    unfold PhiT XTok
    iintro ⟨Hx, Hl, Hs⟩
    ihave Hs := (slots_iff d (tcV m hpre d)).1 $$ Hs
    icases Hs with ⟨Hs, Hr⟩
    isplitl [Hx Hl]
    · isplitl [Hl]; · iexact Hl
      iexact Hx
    isplitl [Hs]; · iexact Hs
    iexact Hr
  hexit d := by
    unfold tcPost
    rw [owesAt_eq]
    iintro ⟨Ha, HO, ⟨Hl, Hx⟩, -⟩
    imodintro
    isplitl [Ha]
    · iapply (arrays_out m hpre d); iexact Ha
    isplitl [Hl]; · iexact Hl
    isplitl [Hx]; · iexact Hx
    iexact HO

end Cert.Proof

end
-- ==== Proof.Run.lean ====
/-
  The whole run: the reshape of the table, the SparseCore call and the TensorCore call, one after another; every final
  memory has the arguments as they were and a result the walk accumulates, and every semaphore at zero.
-/
module

public import proofs.«01_k».proof.Proof.TcSeg

@[expose] public section

noncomputable section

namespace Cert.Proof

open Cert.KernelIdeal Cert.KernelIdeal.Gen
open Idealize.ShloMosaic Idealize.ShloMosaic.Transfers
open Idealize.ShloMosaic.SparseCore.Cfg (HIx)
open Idealize.SL Idealize.SL.RA Idealize.SL.BI Idealize.SL.BI.Laws Idealize.SL.ProofMode
open Idealize.SL.BI.BIBase
open Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (ρ : Dev nD → PrngReg) (hpre : PreOK m)

/-! ## The launch's ghost state -/

/-- The handshakes' rounds and the staging cells' rounds; no transfer counted yet. -/
def u₀ : UU := (initOf (K (F := F)).hsCells (K (F := F)).hsToks,
  (initOf (Pipeline.cells (Pipeline.pin (pcfgs (F := F)) (adm m)) (cellOf_inj _)) (Pipeline.launchToks (Pipeline.pin (pcfgs (F := F)) (adm m)) (cellOf_inj _)), 1))

/-- What the TensorCore is dealt of the staging cells. -/
def G (d : Dev nD) : sProp 𝕄 :=
  iprop(Pipeline.cellsGhost (Pipeline.pin (pcfgs (F := F)) (adm m)) EP 0 d ∗ Pipeline.toksInit (Pipeline.pin (pcfgs (F := F)) (adm m)) EP 0 d)

/-- The staging cells' part of the launch's element. -/
theorem own_rest (b : UP) : (BI.own ((embR : Emb (UP × Counters) (MT nD τ sig (HIx 1) (Elt F) ℕ UU ℕ)) (b, 1)) : sProp 𝕄) = BI.own (EP b) := rfl

/-- What is dealt of the staging cells, core by core. -/
theorem ghost_deal :
    iprop((bigSep Finset.univ fun c : Dev nD => bigSep Finset.univ fun p => Pipeline.cellsGhost (Pipeline.pin (pcfgs (F := F)) (adm m)) EP p c)
      ∗ (bigSep Finset.univ fun c : Dev nD => bigSep Finset.univ fun p => (Pipeline.toksInit (Pipeline.pin (pcfgs (F := F)) (adm m)) EP p c : sProp 𝕄)))
      ⊢ bigSep Finset.univ (G m) := by
  unfold G
  rw [bigSep_sep']
  refine Entails.of_eq (congrArg₂ BIBase.sep ?_ ?_)
  · exact bigSep_congr fun d _ => bigSep_univ_of_subsingleton (0 : Fin 1)
  · exact bigSep_congr fun d _ => bigSep_univ_of_subsingleton (0 : Fin 1)

/-- Nothing dealt to everybody is nothing. -/
theorem none_dealt {I : Type} (s : Finset I) : (bigSep s fun _ => iprop(emp)) = (iprop(emp) : sProp 𝕄) := BI.bigSep_emp_const s

/-- The launch's element is what the threads are dealt. -/
theorem hu₀ : (ownU (u₀ m) : sProp 𝕄) ⊢ |={Set.univ}=> iprop(BI.own (EH (initOf (K (F := F)).hsCells (K (F := F)).hsToks))
    ∗ bigSep Finset.univ (G m) ∗ bigSep Finset.univ fun thr : Thread nD τ => bigSep Finset.univ fun q : Fin 1 => (P m).x q thr) := by
  unfold u₀
  iintro Hu
  ihave H := (ownU_pair _ _) $$ Hu
  icases H with ⟨HH, HR⟩
  ihave HR := (Entails.of_eq (own_rest (F := F) _)) $$ HR
  imod (Pipeline.fund_ghost (Pipeline.pin (pcfgs (F := F)) (adm m)) EP (cellOf_inj _)) $$ HR with ⟨HC, HT⟩
  imodintro
  isplitl [HH]; · iexact HH
  isplitl [HC HT]
  · iapply (ghost_deal m)
    isplitl [HC]; · iexact HC
    iexact HT
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1)]
  rw [none_dealt]; iempintro

/-- The TensorCore's unscoped buffers, one by one. -/
theorem unscoped_eq (d : Dev nD) (W : (b : Ref sig .tc) → Buf (Elt F) ((d.tc : Thread nD τ).loc b)) :
    (unscopedBufs d W : sProp 𝕄) = iprop((xLoc d ↦{fullShare} W main_arg0) ∗ (lLoc d ↦{fullShare} W main_arg1) ∗ (vLoc d ↦{fullShare} W main_arg2)
      ∗ (wLoc d ↦{fullShare} W main_arg3) ∗ (tLoc d ↦{fullShare} W main_v0) ∗ (gLoc d ↦{fullShare} W main_v1) ∗ (oLoc d ↦{fullShare} W main_v2)) := by
  unfold unscopedBufs
  rw [show (Finset.univ.filter fun b : Ref sig .tc => ¬ b.isScoped) = {main_arg0, main_arg1, main_arg2, main_arg3, main_v0, main_v1, main_v2} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-! ## The reshape -/

/-- The table reshaped to one row. -/
abbrev flatOp : HloOp τ sig (Elt F) := StableHlo.reshape main_arg3 main_v0 (rfl : (.f32 : EltTy) = .f32) shapeCasts_S320x320_S102400

theorem flat_bufs (d : Dev nD) (W : Valuation τ sig (Elt F)) :
    (bigSep (flatOp (F := F)).bufs (fun b => ((d, b) : Loc nD τ sig) ↦{fullShare} W b) : sProp 𝕄)
      = iprop((wLoc d ↦{fullShare} W (Proc.devRef .tc main_arg3)) ∗ (tLoc d ↦{fullShare} W (Proc.devRef .tc main_v0))) := by
  rw [show (flatOp (F := F)).bufs = {Proc.devRef .tc main_arg3, Proc.devRef .tc main_v0} from rfl,
    SparseCore.bigSep_insert' (by decide), bigSep_singleton]

theorem wp_flat {α : Type} (d : Dev nD) (k : ((b : (flatOp (F := F)).writes) → b.1.ty.Contents (Elt F)) → Prog (TpuEff nD τ sig (Elt F) (SparseCore.Sig (ΛP (F := F)) 1) .tc) α)
    (Q : α → sProp (MT nD τ sig (HIx 1) (Elt F) ℕ UU ℕ)) :
    iprop(boundary (SparseCore.T d) ∗ (wLoc d ↦{fullShare} m (wLoc d)) ∗ (tLoc d ↦{fullShare} m (tLoc d)))
      ⊢ iprop(((boundary (SparseCore.T d) ∗ (wLoc d ↦{fullShare} m (wLoc d)) ∗ (tLoc d ↦{fullShare} flat m d))
          -∗ wp frame (wpE ((K (F := F)).defs (D (F := F))) 𝒱 (SparseCore.T d) none) Set.univ (k ((flatOp (F := F)).fn fun b => m (d, b.1))) Q)
        -∗ wp frame (wpE ((K (F := F)).defs (D (F := F))) 𝒱 (SparseCore.T d) none) Set.univ (hlo rfl flatOp k) Q) := by
  have e1 := flat_bufs (F := F) d (fun b => m (d, b))
  have e2 := flat_bufs (F := F) d ((flatOp (F := F)).result fun b => m (d, b))
  rw [StableHlo.reshape_result_ne _ _ _ _ _ _ _ (by decide), StableHlo.reshape_result] at e2
  have h : iprop(boundary (SparseCore.T d) ∗ bigSep (flatOp (F := F)).bufs (fun b => ((d, b) : Loc nD τ sig) ↦{fullShare} m (d, b)))
      ⊢ iprop(((boundary (SparseCore.T d) ∗ bigSep (flatOp (F := F)).bufs (fun b => ((d, b) : Loc nD τ sig) ↦{fullShare} (flatOp (F := F)).result (fun b => m (d, b)) b))
          -∗ wp frame (wpE ((K (F := F)).defs (D (F := F))) 𝒱 (SparseCore.T d) none) Set.univ (k ((flatOp (F := F)).fn fun b => m (d, b.1))) Q)
        -∗ wp frame (wpE ((K (F := F)).defs (D (F := F))) 𝒱 (SparseCore.T d) none) Set.univ (hlo rfl flatOp k) Q) :=
    wp_hlo (defs := (K (F := F)).defs (D (F := F))) 𝒱 (SparseCore.T d) none Set.univ (hp := rfl) (op := flatOp (F := F)) (k := k) (Q := Q)
      (q := fun _ => fullShare) (F := fun b => m (d, b)) (fun _ _ => rfl)
  rw [e1, e2] at h
  exact h

/-! ## The run of the TensorCore -/

/-- What the TensorCore ends with: the four arguments and the result. -/
def FIN (d : Dev nD) : sProp 𝕄 :=
  iprop((∃ q, xLoc d ↦{q} m (xLoc d)) ∗ (lLoc d ↦{fullShare} m (lLoc d)) ∗ (vLoc d ↦{fullShare} m (vLoc d)) ∗ (wLoc d ↦{fullShare} m (wLoc d))
    ∗ ∃ o, ⌜accAfter (tcV m hpre d) 16 o⌝ ∗ (oLoc d ↦{fullShare} o))

/-- After its one call the TensorCore owes nothing, and may have waited only where the TensorCore call allows. -/
theorem tcSt_owes (d : Dev nD) :
    ((K (F := F)).tcSt EH d 1 : sProp 𝕄) ⊢ iprop(Owes d tcE (tcV m hpre d) ∗ (Owes d tcE (tcV m hpre d) -∗ (K (F := F)).tcSt EH d 1)) := by
  unfold SparseCore.Cfg.tcSt Owes
  rw [(K (F := F)).Otc_end d (Nat.le_refl 1)]
  iintro ⟨⟨%W, %hW, HO⟩, Hr⟩
  isplitl [HO]
  · iexists W
    isplitr; · ipureintro; exact hW
    iexact HO
  iintro ⟨%W', %hW', HO⟩
  isplitl [HO]
  · iexists W'
    isplitr; · ipureintro; exact hW'
    iexact HO
  iexact Hr

/-- The TensorCore call, in the whole program. -/
theorem wp_tc [∀ e, Nonempty (Elt F e)] (d : Dev nD) {Q : PUnit → sProp (MT nD τ sig (HIx 1) (Elt F) ℕ UU ℕ)} :
    iprop((iprop(boundary (SparseCore.T d) ∗ tcPost m hpre d) -∗ Q ⟨⟩) ∗ boundary (SparseCore.T d) ∗ tcPre m hpre d ∗ levAts (K (F := F)).L (K (F := F)).lev ∗ G m d)
      ⊢ wp frame (wpE ((K (F := F)).defs (D (F := F))) 𝒱 (SparseCore.T d) none) Set.univ
          (Prog.lift (.customCall (SparseCore.inner (Pipeline.entry 0)) ())) Q := by
  have h := (tcSeg m hpre).wp pcfgs (adm m) (rd m hpre) none (cellOf_inj _) EP defs₀ 𝒱₀ (K (F := F)).L (K (F := F)).lev d none (by simp) (fun _ => .ret ⟨⟩) Q
  have h' := (K (F := F)).wp_liftProg (D (F := F)) 𝒱 (SparseCore.T d) Set.univ none (.op (.customCall (Pipeline.entry 0) ()) fun _ => .ret ⟨⟩) Q
  rw [show (tcSeg m hpre).post d = tcPost m hpre d from rfl, show (tcSeg m hpre).pre d = tcPre m hpre d from rfl] at h
  refine BIBase.Entails.trans ?_ (h.trans h')
  have hr (c : Dev nD) : iprop(Q ⟨⟩) ⊢ wp frame (wpE (D (F := F)) 𝒱 (SparseCore.T c) none) Set.univ (.ret ⟨⟩) Q := by
    rw [wp_ret]; iintro H; imodintro; iexact H
  unfold G
  iintro ⟨HQ, Hb, Hp, HL, HC, HT⟩
  isplitl [HQ]
  · iintro ⟨Hb, Hp⟩
    iapply (hr d)
    iapply HQ $$ [Hb Hp]
    isplitl [Hb]; · iexact Hb
    iexact Hp
  isplitl [Hb]; · iexact Hb
  isplitl [Hp]; · iexact Hp
  isplitl [HL]; · iexact HL
  isplitl [HC]; · iexact HC
  iexact HT

/-- The TensorCore's whole program, from everything it holds at the start. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G m d)
      ⊢ wp frame (wpE ((K (F := F)).defs (D (F := F))) 𝒱 (SparseCore.T d) none) Set.univ (main d)
          fun _ => iprop((K (F := F)).tcSt EH d 1 ∗ FIN m hpre d ∗ (K (F := F)).tcEnd d) := by
  unfold SparseCore.Cfg.tcRes SparseCore.Cfg.tcEnd
  rw [unscoped_eq]
  simp only [main, wp_bind, wp_pure]
  iintro ⟨#Hctx, Hst, ⟨Hb, ⟨Hx, Hl, Hv, Hw, Ht, Hg, Ho⟩, Hts, -⟩, HG⟩
  iapply (wp_flat m d _ _) $$ [Hb Hw Ht]
  · isplitl [Hb]; · iexact Hb
    isplitl [Hw]; · iexact Hw
    iexact Ht
  iintro ⟨Hb, Hw, Ht⟩
  rw [wp_ret]
  imodintro
  iapply ((K (F := F)).wp_run (D (F := F)) 𝒱 (EH := EH) (P := P m) κ d 0) $$ [Hst Hb Hx Hl Hv Hw Ht Hg Ho Hts HG]
  isplitr; · iexact Hctx
  isplitl [Hst]; · iexact Hst
  isplitl [Hv Ht Hg]
  · iapply (call_split m d (m (gLoc d)))
    isplitl [Hv]; · iexact Hv
    isplitl [Ht]; · iexact Ht
    iexact Hg
  iintro ⟨Hst, Hdn⟩
  ihave Hdn := (Entails.of_eq (call_join m d)) $$ Hdn
  icases Hdn with ⟨Hv, -, Hg⟩
  ihave Hst := (show ((K (F := F)).tcSt EH d ((0 : Fin 1).val + 1) : sProp 𝕄) ⊢ _ from tcSt_owes m hpre d) $$ Hst
  icases Hst with ⟨HO, Hst⟩
  ihave HL := (SparseCore.Cfg.ctx_levAts κ) $$ Hctx
  iapply (wp_tc m hpre d)
  isplitl [Hst Hts Hv Hw]
  · unfold tcPost FIN
    iintro ⟨Hb, Ho, Hl, Hx, HO⟩
    imodintro
    isplitl [Hst HO]
    · iapply Hst $$ HO
    isplitl [Hx Hl Hv Hw Ho]
    · isplitl [Hx]; · iexact Hx
      isplitl [Hl]; · iexact Hl
      isplitl [Hv]; · iexact Hv
      isplitl [Hw]; · iexact Hw
      iexact Ho
    isplitl [Hb] <;> iassumption
  isplitl [Hb]; · iexact Hb
  isplitl [Hg Ho Hl Hx HO]
  · unfold tcPre
    isplitl [Hg]; · iexact Hg
    isplitl [Ho]; · iexact Ho
    isplitl [Hl]; · iexact Hl
    isplitl [Hx]; · iexact Hx
    iexact HO
  isplitl [HL]; · iexact HL
  iexact HG

/-! ## The final memory -/

/-- What a final memory has: the arguments as they were, and a result the walk accumulates. -/
def fq (d : Dev nD) (M : (ℓ : Loc nD τ sig) → Buf (Elt F) ℓ) : Prop :=
  M (xLoc d) = m (xLoc d) ∧ M (lLoc d) = m (lLoc d) ∧ M (vLoc d) = m (vLoc d) ∧ M (wLoc d) = m (wLoc d)
    ∧ accAfter (tcV m hpre d) 16 (M (oLoc d))

/-- A buffer held whole is what memory has of it. -/
theorem held_mem (s' : Phys nD τ sig (Elt F)) (ℓ : Loc nD τ sig) (q) (f : Buf (Elt F) ℓ) :
    iprop(SI s' ∗ (ℓ ↦{q} f)) ⊢ (iprop(⌜s'.mem.mem ℓ = f⌝ ∗ SI s') : sProp 𝕄) := by
  iintro H
  ihave H := (persistent_entails_right (SI_pointsTo_agree (st := s') (ℓ := ℓ) (I := Finset.univ) (q := q) (f := f))) $$ H
  icases H with ⟨%h, HSI, -⟩
  isplitr
  · ipureintro; exact funext fun i => h i (Finset.mem_univ i)
  iexact HSI

/-- What the TensorCore ends with tells the final memory. -/
theorem hfin (d : Dev nD) (s' : Phys nD τ sig (Elt F)) : iprop(FIN m hpre d ∗ SI s') ⊢ (⌜fq m hpre d s'.mem.mem⌝ : sProp 𝕄) := by
  unfold FIN
  iintro ⟨⟨⟨%q, Hx⟩, Hl, Hv, Hw, ⟨%o, %ho, Ho⟩⟩, HSI⟩
  ihave H := (held_mem s' (xLoc d) q _) $$ [HSI Hx]
  · isplitl [HSI] <;> iassumption
  icases H with ⟨%h1, HSI⟩
  ihave H := (held_mem s' (lLoc d) fullShare _) $$ [HSI Hl]
  · isplitl [HSI] <;> iassumption
  icases H with ⟨%h2, HSI⟩
  ihave H := (held_mem s' (vLoc d) fullShare _) $$ [HSI Hv]
  · isplitl [HSI] <;> iassumption
  icases H with ⟨%h3, HSI⟩
  ihave H := (held_mem s' (wLoc d) fullShare _) $$ [HSI Hw]
  · isplitl [HSI] <;> iassumption
  icases H with ⟨%h4, HSI⟩
  ihave H := (held_mem s' (oLoc d) fullShare _) $$ [HSI Ho]
  · isplitl [HSI] <;> iassumption
  icases H with ⟨%h5, -⟩
  ipureintro
  exact ⟨h1, h2, h3, h4, by rw [h5]; exact ho⟩

/-- What every final state has. -/
def QC : PUnit × MemSt nD τ sig (Elt F) → Prop := fun r => (∀ c : Dev nD, fq m hpre c r.2.mem) ∧ r.2.sem = fun _ => 0

/-- The whole program runs to the end, faulting nowhere, and every final state has what `QC` says. -/
theorem run_main [∀ e, Nonempty (Elt F e)] :
    θ_run (Cert.KernelIdeal.defs (F := F)) (Cert.KernelIdeal.threads (F := F)) ⟨m, fun _ => 0, ρ⟩ (QC m hpre) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hpre)
    (fun q _ => match q with | 0 => SparseCore.Cfg.VecSplit.of_plain (vecSplit m))
    m ρ main (G m) (FIN m hpre) (u₀ m) (sep_elim_left.trans (hu₀ m)) (hmain m ρ hpre) (fun d s' => fq m hpre d s'.mem.mem) (hfin m hpre) (QC m hpre)
    (fun _ h hz => ⟨h, hz⟩)

end Cert.Proof
-- ==== Proof.Frames.lean ====
/-
  The frames: the precondition decoded, and the runs of the kernel, as printed and idealized, and of the reference.
-/
module

public import proofs.«01_k».proof.Defs
public import proofs.«01_k».proof.Proof.Run
public import proofs.«01_k».proof.Proof.Gen.Kernel
public import proofs.«01_k».proof.Proof.Gen.ReferenceIdeal
public import proofs.«01_k».proof.Proof.Gen.Pre_in_range
public import Idealize.ShloMosaic.Lib.Claim
public import Idealize.ShloMosaic.Lib.ReduceAll
public import Idealize.ShloMosaic.Lib.WordArith
public import Idealize.ShloMosaic.Lib.Quiescent

@[expose] public section

noncomputable section

namespace Cert.Proof

open Cert.KernelIdeal Cert.KernelIdeal.Gen
open Idealize.ShloMosaic Idealize.ShloMosaic.WordArith
open Idealize.SL.Sem

variable {F : FTy → Type} [FloatOps F]

/-- A word at least zero and below `n`, signed, is its own value below `n`. -/
theorem between (v : BitVec 32) (n : ℕ) (hn : n < 2 ^ 31) (h1 : IntOp.cmpi .sge v 0#32 = 1#1) (h2 : IntOp.cmpi .slt v (BitVec.ofNat 32 n) = 1#1) : v.toNat < n := by
  simp only [IntOp.cmpi, ofBool_eq_one_iff, BitVec.sle_eq_decide, BitVec.slt_eq_decide, decide_eq_true_eq, BitVec.toInt_eq_toNat_cond, BitVec.toNat_ofNat,
    Nat.reducePow, Nat.reduceMod] at h1 h2
  rw [Nat.mod_eq_of_lt (by omega)] at h2
  rw [if_pos (by omega)] at h2
  split at h2 <;> omega

/-- The precondition — every length at least zero and below 2048, every codebook index at least zero and below 320 —
    gives what the run asks of the launch memory. -/
theorem ok_of_pre (m : (ℓ : Loc nD τ sig) → Buf (Elt F) ℓ)
    (h : ∀ c : Dev nD, Cert.Pre_in_range.fn (F := F) (m (xLoc c)) (m (lLoc c)) (m (vLoc c)) (m (wLoc c)) = fun _ => 1#1) : PreOK m := by
  have key (d : Dev nD) := congrFun (h d) ValueIdx.ix0
  simp only [Cert.Pre_in_range.fn, andi] at key
  constructor
  · intro d y
    obtain ⟨⟨-, h1⟩, h2⟩ := by simpa only [IntOp.andi_eq_one] using key d
    have g1 := Host.reduce_andi_all _ _ _ _ _ h1 y
    have g2 := Host.reduce_andi_all _ _ _ _ _ h2 y
    exact between _ 320 (by decide) g1 g2
  · intro d y
    obtain ⟨⟨⟨h1, h2⟩, -⟩, -⟩ := by simpa only [IntOp.andi_eq_one] using key d
    have g1 := Host.reduce_andi_all _ _ _ _ _ h1 y
    have g2 := Host.reduce_andi_all _ _ _ _ _ h2 y
    exact between _ 2048 (by decide) g1 g2

/-- The idealized kernel runs, its arguments end unchanged and every semaphore at zero. -/
theorem frame_ideal : Cert.quiescent_KernelIdeal := fun m ρ hpre =>
  (θ_run (Cert.KernelIdeal.defs (F := Ideal)) _ _).mono (fun _ h => ⟨fun c => ⟨(h.1 c).1, (h.1 c).2.1, (h.1 c).2.2.1, (h.1 c).2.2.2.1⟩, h.2⟩)
    (run_main (F := Ideal) m ρ (ok_of_pre m hpre))

/-- The reference runs, its arguments end unchanged and every semaphore at zero. -/
theorem frame_reference : Cert.quiescent_ReferenceIdeal := by
  intro m g _
  hlo_run
  · exact fun _ => ⟨trivial, trivial, trivial, trivial⟩
  exact sem_eq_zero_of_no_sems (sig := Cert.ReferenceIdeal.sig) (by decide) _

end Cert.Proof

end
-- ==== Proof.FrameKernel.lean ====
/-
  The kernel as printed is, at one reading of its floats, the idealized kernel's own text: its run is that one's run.
-/
module

public import proofs.«01_k».proof.Defs
public import proofs.«01_k».proof.Proof.Frames
public import Idealize.ShloMosaic.Lib.Tactic
public import proofs.«01_k».proof.Proof.Gen.Kernel
public import proofs.«01_k».proof.Proof.Gen.ReferenceIdeal
public import proofs.«01_k».proof.Proof.Gen.Pre_in_range
public import Idealize.ShloMosaic.Lib.Claim
public import Idealize.ShloMosaic.Lib.ReduceAll
public import Idealize.ShloMosaic.Lib.WordArith
public import Idealize.ShloMosaic.Lib.Quiescent

@[expose] public section

noncomputable section

namespace Cert.Proof

open Cert.KernelIdeal Cert.KernelIdeal.Gen
open Idealize.ShloMosaic Idealize.ShloMosaic.WordArith
open Idealize.SL.Sem

/-- The two programs are one text: a run of the one is a run of the other. -/
theorem run_same (m : (ℓ : Loc nD τ sig) → Buf (Elt Bits) ℓ) (ρ : Dev nD → PrngReg) (Q : PUnit × MemSt nD τ sig (Elt Bits) → Prop) :
    θ_run (Cert.Kernel.defs (F := Bits)) (Cert.Kernel.threads (F := Bits)) ⟨m, fun _ => 0, ρ⟩ Q
      = θ_run (Cert.KernelIdeal.defs (F := Bits)) (Cert.KernelIdeal.threads (F := Bits)) ⟨m, fun _ => 0, ρ⟩ Q := by
  sl_kernel_rfl

/-- The kernel as printed runs, its arguments end unchanged and every semaphore at zero. -/
theorem frame_kernel : Cert.quiescent_Kernel := fun m ρ hpre =>
  (run_same m ρ _).mpr ((θ_run (Cert.KernelIdeal.defs (F := Bits)) _ _).mono
    (fun _ h => ⟨fun c => ⟨(h.1 c).1, (h.1 c).2.1, (h.1 c).2.2.1, (h.1 c).2.2.2.1⟩, h.2⟩) (run_main (F := Bits) m ρ (ok_of_pre m hpre)))

end Cert.Proof

end
-- ==== Proof.Value.lean ====
/-
  The result of the pooling call over the extended reals: what one block adds to a row of it, and what the sixteen
  blocks leave.
-/
module

public import proofs.«01_k».proof.Proof.TcAcc
public import Idealize.ShloMosaic.Lib.Pointwise
public import Idealize.ShloMosaic.Lib.StableHlo.Predicate

@[expose] public section

set_option maxRecDepth 16384

noncomputable section

namespace Cert.Proof

open Cert.KernelIdeal Cert.KernelIdeal.Gen
open Idealize.ShloMosaic

/-- The word comparison that masks a weight holds exactly where the position is below the length. -/
theorem mask_iff (j : Fin 2) (k : Fin 1024) (w : BitVec 32) (hw : w.toNat < 2048) :
    IntOp.cmpi .slt (IntOp.addi (BitVec.ofNat 32 (1024 * j.val)) (BitVec.ofNat 32 k.val)) w = 1#1 ↔ 1024 * j.val + k.val < w.toNat := by
  have hj := j.isLt
  have hk := k.isLt
  have e : (IntOp.addi (BitVec.ofNat 32 (1024 * j.val)) (BitVec.ofNat 32 k.val)).toNat = 1024 * j.val + k.val := by
    simp only [IntOp.addi, BitVec.toNat_add, BitVec.toNat_ofNat]
    omega
  rw [StableHlo.Predicate.slt_iff_toNat (by rw [e]; omega) (by omega), e]

/-- A block's product at an element: the row's element plus the sum, over the block, of the weights below the length times
    the rows. -/
theorem accV_apply (j : Fin 2) (w : BitVec 32) (hw : w.toNat < 2048) (v : Vec Ideal S1x1x1x1024 .f32) (r : Vec Ideal S1x768 .f32)
    (x : Vec Ideal S1024x768 .f32) (c : Fin 768) :
    accV (F := Ideal) j w v r x (ix2 0 c)
      = r (ix2 0 c) + ∑ k : Fin 1024, (if 1024 * j.val + k.val < w.toNat then v (ix4 0 0 0 k) * x (ix2 k c) else 0) := by
  pointwise [accV]
  refine congrArg _ (Finset.sum_congr rfl fun k _ => ?_)
  by_cases h : 1024 * j.val + k.val < w.toNat
  · rw [if_pos h, (mask_iff j k w hw).2 h]
    exact ValueIdx.select_one _ _
  · rw [if_neg h, ValueIdx.eq_zero_of_ne_one (mt (mask_iff j k w hw).1 h)]
    exact ValueIdx.select_zero _ _

variable {E : Env}

/-- What block `j` of batch `b` adds to column `c` of the result's row: over the block's positions below the length, the
    weight times the operand. -/
def blockSum (V : Data Ideal E) (b : Fin 8) (j : Fin 2) (c : Fin 768) : EReal :=
  ∑ k : Fin 1024, (if 1024 * j.val + k.val < V.len b then wRow V b j (ix4 0 0 0 k) * blk E.a3 V.fx b j (ix2 k c) else 0)

/-- A block's treatment adds its part to its row and leaves the others. -/
theorem accRel_apply (V : Data Ideal E) (b : Fin 8) (j : Fin 2) (o o' : Out Ideal) (h : accRel V b j o o') (b' : Fin 8) (c : Fin 768) :
    (o' (ix2 b' c) : EReal) = (o (ix2 b' c) : EReal) + (if b' = b then blockSum V b j c else 0) := by
  unfold accRel at h
  by_cases hp : isPart E V b j
  · rw [if_pos hp] at h
    obtain ⟨X, hX, rfl⟩ := h
    unfold accOut
    by_cases hb : b' = b
    · subst hb
      rw [if_pos (show ((ix2 b' c : S8x768.Idx) 0).val = b'.val from rfl), if_pos rfl]
      have e : (ValueIdx.ix2 (0 : Fin 1) ((ix2 b' c : S8x768.Idx) 1) : S1x768.Idx) = ix2 0 c := (ix2_eq_valueIdx 0 c).symm
      rw [e, accV_apply j _ (V.lw_lt b')]
      unfold blockSum
      refine congrArg₂ _ (congrArg o (ix2_eq_valueIdx b' c).symm) (Finset.sum_congr rfl fun k _ => ?_)
      show (if 1024 * j.val + k.val < V.len b' then _ else _) = _
      by_cases hk : 1024 * j.val + k.val < V.len b'
      · rw [if_pos hk, if_pos hk, hX (ix2 k c) (show k.val < V.len b' - 1024 * j.val by omega)]
      · rw [if_neg hk, if_neg hk]
    · rw [if_neg (show ¬ ((ix2 b' c : S8x768.Idx) 0).val = b.val from fun h => hb (Fin.ext h)), if_neg hb]
      exact (add_zero _).symm
  · rw [if_neg hp] at h
    subst h
    have e : blockSum V b j c = 0 := by
      unfold isPart at hp
      exact Finset.sum_eq_zero fun k _ => if_neg (by omega)
    rw [e, ite_self]
    exact (add_zero _).symm

/-- The blocks' parts of a row, summed over those among the first `n`. -/
theorem accAfter_apply (V : Data Ideal E) (n : ℕ) (hn : n ≤ 16) (o : Out Ideal) (h : accAfter V n o) (b : Fin 8) (c : Fin 768) :
    (o (ix2 b c) : EReal) = (if 2 * b.val < n then blockSum V b 0 c else 0) + (if 2 * b.val + 1 < n then blockSum V b 1 c else 0) := by
  induction n generalizing o with
  | zero =>
    rw [show o = _ from h, if_neg (Nat.not_lt_zero _), if_neg (Nat.not_lt_zero _)]
    pointwise
  | succ n ih =>
    obtain ⟨o₀, h₀, hr⟩ := h
    rw [accRel_apply V _ _ o₀ o hr b c, ih (by omega) o₀ h₀]
    have hb := b.isLt
    by_cases hbn : b.val = n / 2
    · rw [if_pos (Fin.ext (by show b.val = n / 2 % 8; omega))]
      have eb : (Fin.ofNat 8 (n / 2) : Fin 8) = b := Fin.ext (by show n / 2 % 8 = b.val; omega)
      rw [eb]
      rcases Nat.mod_two_eq_zero_or_one n with h2 | h2
      · have ej : (Fin.ofNat 2 n : Fin 2) = 0 := Fin.ext h2
        rw [ej, if_neg (by omega), if_neg (by omega), if_pos (by omega), if_neg (by omega), zero_add, zero_add, add_zero]
      · have ej : (Fin.ofNat 2 n : Fin 2) = 1 := Fin.ext h2
        rw [ej, if_pos (by omega), if_neg (by omega), if_pos (by omega), if_pos (by omega), add_zero]
    · rw [if_neg (show ¬ b = Fin.ofNat 8 (n / 2) from fun h => hbn ((congrArg Fin.val h).trans (Nat.mod_eq_of_lt (by omega)))), add_zero]
      refine congrArg₂ _ (if_congr ?_ rfl rfl) (if_congr ?_ rfl rfl) <;> omega

/-- After the sixteen blocks a row is the sum of its two blocks' parts. -/
theorem accAfter_sixteen (V : Data Ideal E) (o : Out Ideal) (h : accAfter V 16 o) (b : Fin 8) (c : Fin 768) :
    (o (ix2 b c) : EReal) = blockSum V b 0 c + blockSum V b 1 c := by
  have hb := b.isLt
  rw [accAfter_apply V 16 le_rfl o h b c, if_pos (by omega), if_pos (by omega)]

end Cert.Proof

end
-- ==== Proof.RefValue.lean ====
/-
  The reference's result over the extended reals, read at an element: the weighted sum of a batch's positions.
-/
module

public import proofs.«01_k».proof.Proof.Gen.ReferenceIdeal
public import Idealize.ShloMosaic.Lib.Claim
public import Idealize.ShloMosaic.Lib.Pointwise
public import Idealize.ShloMosaic.Lib.StableHlo.Predicate

@[expose] public section

set_option maxRecDepth 16384

noncomputable section

namespace Cert.Proof

open Cert.ReferenceIdeal Cert.ReferenceIdeal.Gen
open Idealize.ShloMosaic
open Idealize.SL.Sem

/-- What position `t` of batch `b` contributes: below the batch's length, the operand's element of the last channel times
    the codebook's entry at the position's index pair. -/
def poolTerm (x : FVec Ideal S8x4x2048x768 .f32) (l : IVec S8 32) (v : IVec S8x2048x2 32) (w : FVec Ideal S320x320 .f32) (b : Fin 8) (c : Fin 768) (t : Fin 2048) :
    EReal :=
  if t.val < (l (ix1 b)).toNat then x (ix4 b 3 t c) * w (ix2 (Fin.ofNat 320 (v (ix3 b t 0)).toNat) (Fin.ofNat 320 (v (ix3 b t 1)).toNat)) else 0

/-- The weighted sum over a batch's positions. -/
def poolSum (x : FVec Ideal S8x4x2048x768 .f32) (l : IVec S8 32) (v : IVec S8x2048x2 32) (w : FVec Ideal S320x320 .f32) (b : Fin 8) (c : Fin 768) : EReal :=
  ∑ t : Fin 2048, poolTerm x l v w b c t

/-- One component of the index pairs, as the reference takes it. -/
def refComp (off : Fin 3 → ℕ) (h : S8x2048x2.Slices off S8x2048x1) (v : IVec S8x2048x2 32) : IVec S8x2048 32 :=
  shapeCast S8x2048 (extractStridedSlice S8x2048x1 off v h) shapeCasts_S8x2048x1_S8x2048

/-- Index words, a negative one moved up by the codebook's extent. -/
def refWrap (a : IVec S8x2048 32) : IVec S8x2048 32 :=
  select (cmpi .slt a (broadcastInDim S8x2048 ![] bcast_S_S8x2048 (constantI S_ 32 0#32)))
    (addi a (broadcastInDim S8x2048 ![] bcast_S_S8x2048 (constantI S_ 32 320#32))) a

/-- The index pairs the reference gathers by. -/
def refPairs (v : IVec S8x2048x2 32) : IVec S8x2048x2 32 :=
  concatenate S8x2048x2 2
    [⟨S8x2048x1, broadcastInDim S8x2048x1 ![0, 1] bcast_S8x2048_S8x2048x1_0_1 (refWrap (refComp ![0, 0, 0] slices_S8x2048x2_S8x2048x1_0_0_0 v))⟩,
     ⟨S8x2048x1, broadcastInDim S8x2048x1 ![0, 1] bcast_S8x2048_S8x2048x1_0_1 (refWrap (refComp ![0, 0, 1] slices_S8x2048x2_S8x2048x1_0_0_1 v))⟩]
    concatenates_S8x2048x1_S8x2048x1_S8x2048x2_d2

/-- The weights the reference takes from the codebook. -/
def refGath (v : IVec S8x2048x2 32) (w : FVec Ideal S320x320 .f32) : FVec Ideal S8x2048 .f32 :=
  Host.gather gather_S320x320_S8x2048x2_S8x2048_n_01_n_n_01_2_11 w (refPairs v)

/-- Weights, those at or past the length made zero. -/
def refMask (l : IVec S8 32) (g : FVec Ideal S8x2048 .f32) : FVec Ideal S8x2048 .f32 :=
  select (cmpi .slt (broadcastInDim S8x2048 ![0, 1] bcast_S1x2048_S8x2048_0_1 (broadcastInDim S1x2048 ![1] bcast_S2048_S1x2048_1 (iotaInDim S2048 32 0)))
      (broadcastInDim S8x2048 ![0, 1] bcast_S8x1_S8x2048_0_1 (broadcastInDim S8x1 ![0] bcast_S8_S8x1_0 l)))
    g (broadcastInDim S8x2048 ![] bcast_S_S8x2048 (constant S_ .f32 0x00000000#32))

/-- The reference's result. -/
def refOut (x : FVec Ideal S8x4x2048x768 .f32) (l : IVec S8 32) (v : IVec S8x2048x2 32) (w : FVec Ideal S320x320 .f32) : FVec Ideal S8x768 .f32 :=
  Host.reduceAdd
    (mulf (shapeCast S8x2048x768 (extractStridedSlice S8x1x2048x768 ![0, 3, 0, 0] x slices_S8x4x2048x768_S8x1x2048x768_0_3_0_0) shapeCasts_S8x1x2048x768_S8x2048x768)
      (broadcastInDim S8x2048x768 ![0, 1, 2] bcast_S8x2048x1_S8x2048x768_0_1_2 (broadcastInDim S8x2048x1 ![0, 1] bcast_S8x2048_S8x2048x1_0_1 (refMask l (refGath v w)))))
    (constant S_ .f32 0x00000000#32) reducesTo_S8x2048x768_S8x768_d1 h_S_

/-- A word that is not negative is left as it is. -/
theorem wrap_word (a : BitVec 32) (h : a.toNat < 320) : Scalar.select (IntOp.cmpi .slt a 0#32) (IntOp.addi a 320#32) a = a := by
  have hn : ¬ IntOp.cmpi .slt a 0#32 = 1#1 := by
    rw [StableHlo.Predicate.slt_iff_toNat (by omega) (by decide)]
    exact Nat.not_lt_zero _
  rw [ValueIdx.eq_zero_of_ne_one hn]
  exact ValueIdx.select_zero _ _

/-- The reference's index pairs are the given ones, the indices being in range. -/
theorem refPairs_apply (v : IVec S8x2048x2 32) (hv : ∀ y, (v y).toNat < 320) (b : Fin 8) (t : Fin 2048) (c : Fin 2) : refPairs v (ix3 b t c) = v (ix3 b t c) := by
  match c with
  | ⟨0, _⟩ =>
    show refPairs v (ix3 b t 0) = v (ix3 b t 0)
    pointwise [refPairs, refWrap, refComp]
    exact wrap_word _ (hv _)
  | ⟨1, _⟩ =>
    show refPairs v (ix3 b t 1) = v (ix3 b t 1)
    pointwise [refPairs, refWrap, refComp]
    exact wrap_word _ (hv _)

/-- A gather of elements of a table by index pairs, read at a position: the element at the pair, each index clamped. -/
theorem gather_pair (w : FVec Ideal S320x320 .f32) (i : IVec S8x2048x2 32) (b : Fin 8) (t : Fin 2048) :
    Host.gather gather_S320x320_S8x2048x2_S8x2048_n_01_n_n_01_2_11 w i (ix2 b t)
      = w (ix2 ⟨min (i (ix3 b t 0)).toInt.toNat 319, by omega⟩ ⟨min (i (ix3 b t 1)).toInt.toNat 319, by omega⟩) := by
  unfold Host.gather
  refine congrArg w (funext fun a => Fin.ext ?_)
  have hs (c : Fin 2) : gather_S320x320_S8x2048x2_S8x2048_n_01_n_n_01_2_11.siIdx (ix2 b t) c = ix3 b t c := by
    funext x
    match x with
    | ⟨0, _⟩ => rfl
    | ⟨1, _⟩ => rfl
    | ⟨2, _⟩ => rfl
  match a with
  | ⟨0, _⟩ =>
    show min (i (gather_S320x320_S8x2048x2_S8x2048_n_01_n_n_01_2_11.siIdx (ix2 b t) (0 : Fin 2))).toInt.toNat 319 + 0 + 0 = _
    rw [hs]
    rfl
  | ⟨1, _⟩ =>
    show min (i (gather_S320x320_S8x2048x2_S8x2048_n_01_n_n_01_2_11.siIdx (ix2 b t) (1 : Fin 2))).toInt.toNat 319 + 0 + 0 = _
    rw [hs]
    rfl

/-- A word in range, read signed and clamped, is its own value. -/
theorem clamp_word (a : BitVec 32) (h : a.toNat < 320) : min a.toInt.toNat 319 = a.toNat % 320 := by
  rw [BitVec.toInt_eq_toNat_of_lt (by omega), Int.toNat_natCast]
  omega

/-- The reference's weight at a position is the codebook's entry at the position's index pair. -/
theorem refGath_apply (v : IVec S8x2048x2 32) (hv : ∀ y, (v y).toNat < 320) (w : FVec Ideal S320x320 .f32) (b : Fin 8) (t : Fin 2048) :
    refGath v w (ix2 b t) = w (ix2 (Fin.ofNat 320 (v (ix3 b t 0)).toNat) (Fin.ofNat 320 (v (ix3 b t 1)).toNat)) := by
  unfold refGath
  rw [gather_pair]
  refine congrArg w (congrArg₂ ix2 (Fin.ext ?_) (Fin.ext ?_))
  · show min (refPairs v (ix3 b t 0)).toInt.toNat 319 = (v (ix3 b t 0)).toNat % 320
    rw [refPairs_apply v hv]
    exact clamp_word _ (hv _)
  · show min (refPairs v (ix3 b t 1)).toInt.toNat 319 = (v (ix3 b t 1)).toNat % 320
    rw [refPairs_apply v hv]
    exact clamp_word _ (hv _)

/-- The reference's result is the weighted sum. -/
theorem refOut_apply (x : FVec Ideal S8x4x2048x768 .f32) (l : IVec S8 32) (hl : ∀ y, (l y).toNat < 2048) (v : IVec S8x2048x2 32) (hv : ∀ y, (v y).toNat < 320)
    (w : FVec Ideal S320x320 .f32) (b : Fin 8) (c : Fin 768) : refOut x l v w (ix2 b c) = poolSum x l v w b c := by
  pointwise [refOut, refMask]
  unfold poolSum
  refine Finset.sum_congr rfl fun t _ => ?_
  unfold poolTerm
  have ht := t.isLt
  have hb := hl (ix1 b)
  have e : (BitVec.ofNat 32 t.val).toNat = t.val := by rw [BitVec.toNat_ofNat]; omega
  have hi : IntOp.cmpi .slt (BitVec.ofNat 32 t.val) (l (ix1 b)) = 1#1 ↔ t.val < (l (ix1 b)).toNat := by
    rw [StableHlo.Predicate.slt_iff_toNat (by omega) (by omega), e]
  rw [refGath_apply v hv]
  by_cases h : t.val < (l (ix1 b)).toNat
  · rw [if_pos h, hi.2 h]
    exact ValueIdx.select_one _ _
  · rw [if_neg h, ValueIdx.eq_zero_of_ne_one (mt hi.1 h)]
    exact ValueIdx.select_zero _ _

/-- The reference's run: its result is `refOut` of its arguments, which end unchanged. -/
theorem ref_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v31)
          = refOut (m ((c.tc : Thread nD τ).loc main_arg0)) (m ((c.tc : Thread nD τ).loc main_arg1)) (m ((c.tc : Thread nD τ).loc main_arg2)) (m ((c.tc : Thread nD τ).loc main_arg3))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)) := by
  hlo_run
  all_goals rfl

end Cert.Proof

end
-- ==== Proof.Algebraic.lean ====
/-
  The equation: over the extended reals the kernel's result is the reference's.
-/
module

public import proofs.«01_k».proof.Proof.Frames
public import proofs.«01_k».proof.Proof.Value
public import proofs.«01_k».proof.Proof.RefValue

@[expose] public section

set_option maxRecDepth 16384

noncomputable section

namespace Cert.Proof

open Cert.KernelIdeal Cert.KernelIdeal.Gen
open Idealize.ShloMosaic
open Idealize.SL.Sem

variable (m : (ℓ : Loc nD τ sig) → Buf (Elt Ideal) ℓ) (hpre : PreOK m) (d : Dev nD)

/-- The length the pooling call reads for batch `b`. -/
theorem len_apply (b : Fin 8) : (tcV m hpre d).len b = ((m (lLoc d) : S8.Idx → BitVec 32) (ix1 b)).toNat := by
  unfold Data.len
  rw [Data.lw_eq, ← ix1_eq_valueIdx]
  rfl

/-- Position `k` of block `j`. -/
def posOf (j : Fin 2) (k : Fin 1024) : Fin 2048 := ⟨1024 * j.val + k.val, by omega⟩

/-- The operand's element the pooling call reads for position `k` of block `j` of batch `b`. -/
theorem blk_apply (b : Fin 8) (j : Fin 2) (k : Fin 1024) (c : Fin 768) :
    blk tcE.a3 (tcV m hpre d).fx b j (ix2 k c) = (m (xLoc d) : S8x4x2048x768.Idx → EReal) (ix4 b 3 (posOf j k) c) := by
  rw [ix4_eq_valueIdx]
  rfl

/-- The codebook laid out flat, read at the word of an index pair in range: the codebook's entry at the pair. -/
theorem flat_apply (p q : BitVec 32) (hp : p.toNat < 320) (hq : q.toNat < 320) :
    flat m d (ValueIdx.ix1 (Fin.ofNat 102400 (p * 320#32 + q).toNat))
      = (m (wLoc d) : S320x320.Idx → EReal) (ix2 (Fin.ofNat 320 p.toNat) (Fin.ofNat 320 q.toNat)) := by
  have e : (p * 320#32 + q).toNat = p.toNat * 320 + q.toNat := by
    rw [BitVec.toNat_add, BitVec.toNat_mul]
    show (p.toNat * 320 % 2 ^ 32 + q.toNat) % 2 ^ 32 = _
    omega
  rw [← ix1_eq_valueIdx]
  pointwise [flat]
  refine congrArg (m (wLoc d)) (congrArg₂ ix2 (Fin.ext ?_) (Fin.ext ?_))
  · show (p * 320#32 + q).toNat % 102400 / 320 = p.toNat % 320
    omega
  · show (p * 320#32 + q).toNat % 102400 % 320 = q.toNat % 320
    omega

/-- The weight the pooling call reads for position `k` of block `j` of batch `b`: the codebook's entry at the position's
    index pair. -/
theorem wRow_apply (b : Fin 8) (j : Fin 2) (k : Fin 1024) :
    wRow (tcV m hpre d) b j (ix4 0 0 0 k)
      = (m (wLoc d) : S320x320.Idx → EReal) (ix2 (Fin.ofNat 320 (pairs m d (ix3 b (posOf j k) 0)).toNat) (Fin.ofNat 320 (pairs m d (ix3 b (posOf j k) 1)).toNat)) := by
  have h := flat_apply m d (pairs m d (ix3 b (posOf j k) 0)) (pairs m d (ix3 b (posOf j k) 1)) (hpre.v d _) (hpre.v d _)
  rw [← h, ix3_eq_valueIdx, ix3_eq_valueIdx]
  rfl

/-- The two blocks' parts are the weighted sum. -/
theorem parts_eq (b : Fin 8) (c : Fin 768) :
    blockSum (tcV m hpre d) b 0 c + blockSum (tcV m hpre d) b 1 c = poolSum (m (xLoc d)) (m (lLoc d)) (pairs m d) (m (wLoc d)) b c := by
  have hpart (j : Fin 2) : blockSum (tcV m hpre d) b j c = ∑ k : Fin 1024, poolTerm (m (xLoc d)) (m (lLoc d)) (pairs m d) (m (wLoc d)) b c (posOf j k) := by
    unfold blockSum
    refine Finset.sum_congr rfl fun k _ => ?_
    rw [len_apply, wRow_apply, blk_apply]
    exact if_congr Iff.rfl (mul_comm (G := EReal) _ _) rfl
  rw [hpart, hpart]
  unfold poolSum
  refine ((Fin.sum_univ_add (a := 1024) (b := 1024) _).trans (congrArg₂ _ (Finset.sum_congr rfl fun k _ => ?_) (Finset.sum_congr rfl fun k _ => ?_))).symm
  · have e : (Fin.castAdd 1024 k : Fin (1024 + 1024)) = posOf 0 k := Fin.ext (by show k.val = 1024 * 0 + k.val; omega)
    rw [e]
  · have e : (Fin.natAdd 1024 k : Fin (1024 + 1024)) = posOf 1 k := Fin.ext rfl
    rw [e]

/-- What the kernel leaves is the reference's result of the same arguments. -/
theorem kernel_value (o : Out Ideal) (h : accAfter (tcV m hpre d) 16 o) : o = refOut (m (xLoc d)) (m (lLoc d)) (pairs m d) (m (wLoc d)) := by
  funext y
  obtain ⟨b, c, rfl⟩ : ∃ (b : Fin 8) (c : Fin 768), y = ix2 b c := ⟨y 0, y 1, eq_ix2 y⟩
  exact ((accAfter_sixteen _ o h b c).trans (parts_eq m hpre d b c)).trans (refOut_apply _ _ (hpre.l d) _ (hpre.v d) _ b c).symm

/-- The kernel and the reference, run on the same arguments over the extended reals, end with the same result. -/
theorem kernel_reference : Cert.algebraic_KernelIdeal_ReferenceIdeal := fun m g m' g' hpre hagree => by
  refine ⟨fun d => refOut (m (xLoc d)) (m (lLoc d)) (m (vLoc d)) (m (wLoc d)),
    (θ_run (Cert.KernelIdeal.defs (F := Ideal)) _ _).mono (fun r h c => ⟨?_, (h.1 c).1, (h.1 c).2.1, (h.1 c).2.2.1, (h.1 c).2.2.2.1⟩)
      (run_main (F := Ideal) m g (ok_of_pre m hpre)),
    (θ_run (Cert.ReferenceIdeal.defs (F := Ideal)) _ _).mono (fun r h c => ⟨(h c).1.trans ?_, (h c).2⟩) (ref_run m' g')⟩
  · exact kernel_value m (ok_of_pre m hpre) c _ (h.1 c).2.2.2.2
  · obtain ⟨h0, h1, h2, h3⟩ := hagree c
    rw [h0, h1, h2, h3]

end Cert.Proof

end
-- ==== Proof.lean ====
/-
  The certificate of the weighted pooling kernel: its claims, assembled from the modules under Proof/.
  Base.lean sets up the ghost state. Sc*.lean are the SparseCore's gather (a tile's whole program, and the call split
  among the tiles), Tc*.lean the TensorCore's pooling call (one block, the walk over the sixteen blocks, the region),
  Run.lean the whole program's run, and Frames.lean and FrameKernel.lean the frames taken from it. Value.lean reads the
  kernel's result at an element over the extended reals, RefValue.lean the reference's, and Algebraic.lean equates them.
-/
module

public import proofs.«01_k».proof.Defs
public import proofs.«01_k».proof.Proof.FrameKernel
public import proofs.«01_k».proof.Proof.Algebraic

@[expose] public section

noncomputable section

namespace Cert.Proof

/-- Every claim of the certificate. -/
theorem claim : Cert.Claim := ⟨Cert.Kernel.Gen.facts, Cert.KernelIdeal.Gen.facts, Cert.ReferenceIdeal.Gen.facts, Cert.Pre_in_range.Gen.facts,
  frame_kernel, frame_ideal, frame_reference, trivial, kernel_reference⟩

end Cert.Proof

end
